-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33_0) = v0 c
          ∧ r.2.mem ((c.tc : Thread Cert.ReferenceIdeal.nD Cert.ReferenceIdeal.τ).loc Cert.ReferenceIdeal.main_v33_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Dx_DxIdeal : Prop :=
  True

def algebraic_DxIdeal_DxReferenceIdeal [hDxIdeal : Cert.DxIdeal.Facts] [hDxReferenceIdeal : Cert.DxReferenceIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxIdeal m →
    (∀ c : Dev Cert.DxIdeal.nD,
      m' ((c.tc : Thread Cert.DxReferenceIdeal.nD Cert.DxReferenceIdeal.τ).loc Cert.DxReferenceIdeal.main_arg0) = m ((c.tc : Thread Cert.DxIdeal.nD Cert.DxIdeal.τ).loc Cert.DxIdeal.main_arg0)
      ∧ m' ((c.tc : Thread Cert.DxReferenceIdeal.nD Cert.DxReferenceIdeal.τ).loc Cert.DxReferenceIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v0_0) = v0 c
          ∧ r.2.mem ((c.tc : Thread Cert.DxReferenceIdeal.nD Cert.DxReferenceIdeal.τ).loc Cert.DxReferenceIdeal.main_v0_1) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def Claim : Prop :=
  ∃ (hKernel : Cert.Kernel.Facts) (hKernelIdeal : Cert.KernelIdeal.Facts) (hReferenceIdeal : Cert.ReferenceIdeal.Facts) (hDx : Cert.Dx.Facts) (hDxIdeal : Cert.DxIdeal.Facts) (hDxReferenceIdeal : Cert.DxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Dx (hDx := hDx)
    ∧ quiescent_DxIdeal (hDxIdeal := hDxIdeal)
    ∧ quiescent_DxReferenceIdeal (hDxReferenceIdeal := hDxReferenceIdeal)
    ∧ preserves_Kernel_KernelIdeal
    ∧ algebraic_KernelIdeal_ReferenceIdeal (hKernelIdeal := hKernelIdeal) (hReferenceIdeal := hReferenceIdeal)
    ∧ preserves_Dx_DxIdeal
    ∧ algebraic_DxIdeal_DxReferenceIdeal (hDxIdeal := hDxIdeal) (hDxReferenceIdeal := hDxReferenceIdeal)
-- ==== Kernel.lean ====
abbrev S2x12288x4096 : Shape := ⟨3, ![2, 12288, 4096]⟩
abbrev S2x12288x32 : Shape := ⟨3, ![2, 12288, 32]⟩
abbrev S4096x2x11008 : Shape := ⟨3, ![4096, 2, 11008]⟩
abbrev S32x2x86 : Shape := ⟨3, ![32, 2, 86]⟩
abbrev S11008x4096 : Shape := ⟨2, ![11008, 4096]⟩
abbrev S86x32 : Shape := ⟨2, ![86, 32]⟩
abbrev S24576x4096 : Shape := ⟨2, ![24576, 4096]⟩
abbrev S24576x32 : Shape := ⟨2, ![24576, 32]⟩
abbrev S2x4096x11008 : Shape := ⟨3, ![2, 4096, 11008]⟩
abbrev S32x2x86x128 : Shape := ⟨4, ![32, 2, 86, 128]⟩
abbrev S32x2x11008 : Shape := ⟨3, ![32, 2, 11008]⟩
abbrev S86x32x128 : Shape := ⟨3, ![86, 32, 128]⟩
abbrev S86x4096 : Shape := ⟨2, ![86, 4096]⟩
abbrev S86x1x4096 : Shape := ⟨3, ![86, 1, 4096]⟩
abbrev S4096x24576 : Shape := ⟨2, ![4096, 24576]⟩
abbrev S512x4096 : Shape := ⟨2, ![512, 4096]⟩
abbrev S512x32 : Shape := ⟨2, ![512, 32]⟩
abbrev S4096x512 : Shape := ⟨2, ![4096, 512]⟩
abbrev S512x128 : Shape := ⟨2, ![512, 128]⟩
abbrev S512x1 : Shape := ⟨2, ![512, 1]⟩
abbrev S128x512 : Shape := ⟨2, ![128, 512]⟩
abbrev S4096x22016 : Shape := ⟨2, ![4096, 22016]⟩
abbrev S2x128x11008 : Shape := ⟨3, ![2, 128, 11008]⟩
abbrev S1x2x11008 : Shape := ⟨3, ![1, 2, 11008]⟩
abbrev S128x22016 : Shape := ⟨2, ![128, 22016]⟩
abbrev S1x128x256 : Shape := ⟨3, ![1, 128, 256]⟩
abbrev S128x256 : Shape := ⟨2, ![128, 256]⟩
abbrev S1x1x256 : Shape := ⟨3, ![1, 1, 256]⟩
abbrev S1x256 : Shape := ⟨2, ![1, 256]⟩
abbrev S128x4096 : Shape := ⟨2, ![128, 4096]⟩
abbrev S1x1x4096 : Shape := ⟨3, ![1, 1, 4096]⟩
abbrev S1x4096 : Shape := ⟨2, ![1, 4096]⟩
abbrev S11008x24576 : Shape := ⟨2, ![11008, 24576]⟩
abbrev S24576x22016 : Shape := ⟨2, ![24576, 22016]⟩
abbrev S2048x4096 : Shape := ⟨2, ![2048, 4096]⟩
abbrev S256x4096 : Shape := ⟨2, ![256, 4096]⟩
abbrev S256x2048 : Shape := ⟨2, ![256, 2048]⟩
abbrev S2048x512 : Shape := ⟨2, ![2048, 512]⟩
abbrev S256x512 : Shape := ⟨2, ![256, 512]⟩
abbrev S256x256 : Shape := ⟨2, ![256, 256]⟩
abbrev S4096x2048 : Shape := ⟨2, ![4096, 2048]⟩
abbrev S2x4096x256 : Shape := ⟨3, ![2, 4096, 256]⟩
abbrev S1x4096x256 : Shape := ⟨3, ![1, 4096, 256]⟩
abbrev S4096x256 : Shape := ⟨2, ![4096, 256]⟩
abbrev S2048x256 : Shape := ⟨2, ![2048, 256]⟩
abbrev S1376x2048 : Shape := ⟨2, ![1376, 2048]⟩
abbrev S2048x2048 : Shape := ⟨2, ![2048, 2048]⟩

abbrev nBuf : Space → Nat
  | .hbm => 28
  | .vmem => 48
  | .smem => 0
  | _ => 0

abbrev bufTy : (tb : Table) → Fin (tcTables nBuf tb) → BufTy
  | .hbm, ⟨0, _⟩ => ⟨S2x12288x4096, .fp8e4m3⟩
  | .hbm, ⟨1, _⟩ => ⟨S2x12288x32, .f32⟩
  | .hbm, ⟨2, _⟩ => ⟨S2x12288x4096, .fp8e5m2⟩
  | .hbm, ⟨3, _⟩ => ⟨S2x12288x32, .f32⟩
  | .hbm, ⟨4, _⟩ => ⟨S4096x2x11008, .fp8e4m3⟩
  | .hbm, ⟨5, _⟩ => ⟨S32x2x86, .f32⟩
  | .hbm, ⟨6, _⟩ => ⟨S11008x4096, .fp8e4m3⟩
  | .hbm, ⟨7, _⟩ => ⟨S86x32, .f32⟩
  | .hbm, ⟨8, _⟩ => ⟨S24576x4096, .fp8e4m3⟩
  | .hbm, ⟨9, _⟩ => ⟨S24576x4096, .fp8e5m2⟩
  | .hbm, ⟨10, _⟩ => ⟨S24576x32, .f32⟩
  | .hbm, ⟨11, _⟩ => ⟨S24576x32, .f32⟩
  | .hbm, ⟨12, _⟩ => ⟨S2x4096x11008, .fp8e4m3⟩
  | .hbm, ⟨13, _⟩ => ⟨S32x2x86x128, .f32⟩
  | .hbm, ⟨14, _⟩ => ⟨S32x2x11008, .f32⟩
  | .hbm, ⟨15, _⟩ => ⟨S86x32x128, .f32⟩
  | .hbm, ⟨16, _⟩ => ⟨S86x4096, .f32⟩
  | .hbm, ⟨17, _⟩ => ⟨S86x1x4096, .f32⟩
  | .hbm, ⟨18, _⟩ => ⟨S24576x4096, .bf16⟩
  | .hbm, ⟨19, _⟩ => ⟨S4096x24576, .bf16⟩
  | .hbm, ⟨20, _⟩ => ⟨S24576x4096, .bf16⟩
  | .hbm, ⟨21, _⟩ => ⟨S4096x22016, .bf16⟩
  | .hbm, ⟨22, _⟩ => ⟨S11008x4096, .bf16⟩
  | .hbm, ⟨23, _⟩ => ⟨S11008x24576, .bf16⟩
  | .hbm, ⟨24, _⟩ => ⟨S24576x22016, .bf16⟩
  | .hbm, ⟨25, _⟩ => ⟨S2x4096x11008, .f32⟩
  | .hbm, ⟨26, _⟩ => ⟨S11008x4096, .f32⟩
  | .hbm, ⟨27, _⟩ => ⟨S4096x2x11008, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x32, .f32⟩
  | .local _ .vmem, ⟨3, _⟩ => ⟨S512x32, .f32⟩
  | .local _ .vmem, ⟨4, _⟩ => ⟨S512x4096, .bf16⟩
  | .local _ .vmem, ⟨5, _⟩ => ⟨S512x4096, .bf16⟩
  | .local _ .vmem, ⟨6, _⟩ => ⟨S4096x512, .bf16⟩
  | .local _ .vmem, ⟨7, _⟩ => ⟨S4096x512, .bf16⟩
  | .local _ .vmem, ⟨8, _⟩ => ⟨S512x4096, .fp8e5m2⟩
  | .local _ .vmem, ⟨9, _⟩ => ⟨S512x4096, .fp8e5m2⟩
  | .local _ .vmem, ⟨10, _⟩ => ⟨S512x32, .f32⟩
  | .local _ .vmem, ⟨11, _⟩ => ⟨S512x32, .f32⟩
  | .local _ .vmem, ⟨12, _⟩ => ⟨S512x4096, .bf16⟩
  | .local _ .vmem, ⟨13, _⟩ => ⟨S512x4096, .bf16⟩
  | .local _ .vmem, ⟨14, _⟩ => ⟨S2x128x11008, .fp8e4m3⟩
  | .local _ .vmem, ⟨15, _⟩ => ⟨S2x128x11008, .fp8e4m3⟩
  | .local _ .vmem, ⟨16, _⟩ => ⟨S1x2x11008, .f32⟩
  | .local _ .vmem, ⟨17, _⟩ => ⟨S1x2x11008, .f32⟩
  | .local _ .vmem, ⟨18, _⟩ => ⟨S128x22016, .bf16⟩
  | .local _ .vmem, ⟨19, _⟩ => ⟨S128x22016, .bf16⟩
  | .local _ .vmem, ⟨20, _⟩ => ⟨S128x4096, .fp8e4m3⟩
  | .local _ .vmem, ⟨21, _⟩ => ⟨S128x4096, .fp8e4m3⟩
  | .local _ .vmem, ⟨22, _⟩ => ⟨S1x1x4096, .f32⟩
  | .local _ .vmem, ⟨23, _⟩ => ⟨S1x1x4096, .f32⟩
  | .local _ .vmem, ⟨24, _⟩ => ⟨S128x4096, .bf16⟩
  | .local _ .vmem, ⟨25, _⟩ => ⟨S128x4096, .bf16⟩
  | .local _ .vmem, ⟨26, _⟩ => ⟨S4096x512, .bf16⟩
  | .local _ .vmem, ⟨27, _⟩ => ⟨S4096x512, .bf16⟩
  | .local _ .vmem, ⟨28, _⟩ => ⟨S2048x4096, .bf16⟩
  | .local _ .vmem, ⟨29, _⟩ => ⟨S2048x4096, .bf16⟩
  | .local _ .vmem, ⟨30, _⟩ => ⟨S256x4096, .bf16⟩
  | .local _ .vmem, ⟨31, _⟩ => ⟨S256x4096, .bf16⟩
  | .local _ .vmem, ⟨32, _⟩ => ⟨S256x2048, .bf16⟩
  | .local _ .vmem, ⟨33, _⟩ => ⟨S256x2048, .bf16⟩
  | .local _ .vmem, ⟨34, _⟩ => ⟨S2048x512, .bf16⟩
  | .local _ .vmem, ⟨35, _⟩ => ⟨S2048x512, .bf16⟩
  | .local _ .vmem, ⟨36, _⟩ => ⟨S4096x2048, .bf16⟩
  | .local _ .vmem, ⟨37, _⟩ => ⟨S4096x2048, .bf16⟩
  | .local _ .vmem, ⟨38, _⟩ => ⟨S2048x512, .bf16⟩
  | .local _ .vmem, ⟨39, _⟩ => ⟨S2048x512, .bf16⟩
  | .local _ .vmem, ⟨40, _⟩ => ⟨S2x4096x256, .f32⟩
  | .local _ .vmem, ⟨41, _⟩ => ⟨S2x4096x256, .f32⟩
  | .local _ .vmem, ⟨42, _⟩ => ⟨S1376x2048, .bf16⟩
  | .local _ .vmem, ⟨43, _⟩ => ⟨S1376x2048, .bf16⟩
  | .local _ .vmem, ⟨44, _⟩ => ⟨S2048x2048, .bf16⟩
  | .local _ .vmem, ⟨45, _⟩ => ⟨S2048x2048, .bf16⟩
  | .local _ .vmem, ⟨46, _⟩ => ⟨S1376x2048, .f32⟩
  | .local _ .vmem, ⟨47, _⟩ => ⟨S1376x2048, .f32⟩
  | _, _ => ⟨S2x12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2x128x11008 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x11008 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x22016 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![86], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x4096 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![12, 43], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S2048x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 1 → Memref sig .tc .vmem S2048x4096 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev stage4_3 : Fin 2 → Memref sig .tc .vmem S256x4096 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S256x2048 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S2048x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![43, 12], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage5_0 : Fin 2 → Memref sig .tc .vmem S4096x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S2x4096x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨3, ![8, 2, 12], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1376x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1376x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== ReferenceIdeal.lean ====
abbrev S2x12288x4096 : Shape := ⟨3, ![2, 12288, 4096]⟩
abbrev S2x12288x32 : Shape := ⟨3, ![2, 12288, 32]⟩
abbrev S4096x2x11008 : Shape := ⟨3, ![4096, 2, 11008]⟩
abbrev S32x2x86 : Shape := ⟨3, ![32, 2, 86]⟩
abbrev S11008x4096 : Shape := ⟨2, ![11008, 4096]⟩
abbrev S86x32 : Shape := ⟨2, ![86, 32]⟩
abbrev S24576x4096 : Shape := ⟨2, ![24576, 4096]⟩
abbrev S24576x32 : Shape := ⟨2, ![24576, 32]⟩
abbrev S24576x32x128 : Shape := ⟨3, ![24576, 32, 128]⟩
abbrev S4096x1x11008 : Shape := ⟨3, ![4096, 1, 11008]⟩
abbrev S4096x11008 : Shape := ⟨2, ![4096, 11008]⟩
abbrev S32x1x86 : Shape := ⟨3, ![32, 1, 86]⟩
abbrev S32x86 : Shape := ⟨2, ![32, 86]⟩
abbrev S32x128x86 : Shape := ⟨3, ![32, 128, 86]⟩
abbrev S4096x86 : Shape := ⟨2, ![4096, 86]⟩
abbrev S4096x86x128 : Shape := ⟨3, ![4096, 86, 128]⟩
abbrev S86x128x32 : Shape := ⟨3, ![86, 128, 32]⟩
abbrev S11008x32 : Shape := ⟨2, ![11008, 32]⟩
abbrev S11008x32x128 : Shape := ⟨3, ![11008, 32, 128]⟩
abbrev S24576x11008 : Shape := ⟨2, ![24576, 11008]⟩

abbrev nBuf : Space → Nat
  | .hbm => 43
  | .vmem => 12
  | .smem => 0
  | _ => 0

abbrev bufTy : (tb : Table) → Fin (tcTables nBuf tb) → BufTy
  | .hbm, ⟨0, _⟩ => ⟨S2x12288x4096, .fp8e4m3⟩
  | .hbm, ⟨1, _⟩ => ⟨S2x12288x32, .f32⟩
  | .hbm, ⟨2, _⟩ => ⟨S2x12288x4096, .fp8e5m2⟩
  | .hbm, ⟨3, _⟩ => ⟨S2x12288x32, .f32⟩
  | .hbm, ⟨4, _⟩ => ⟨S4096x2x11008, .fp8e4m3⟩
  | .hbm, ⟨5, _⟩ => ⟨S32x2x86, .f32⟩
  | .hbm, ⟨6, _⟩ => ⟨S11008x4096, .fp8e4m3⟩
  | .hbm, ⟨7, _⟩ => ⟨S86x32, .f32⟩
  | .hbm, ⟨8, _⟩ => ⟨S24576x4096, .fp8e4m3⟩
  | .hbm, ⟨9, _⟩ => ⟨S24576x32, .f32⟩
  | .hbm, ⟨10, _⟩ => ⟨S24576x32x128, .f32⟩
  | .hbm, ⟨11, _⟩ => ⟨S24576x4096, .f32⟩
  | .hbm, ⟨12, _⟩ => ⟨S24576x4096, .bf16⟩
  | .hbm, ⟨13, _⟩ => ⟨S24576x4096, .fp8e5m2⟩
  | .hbm, ⟨14, _⟩ => ⟨S24576x32, .f32⟩
  | .hbm, ⟨15, _⟩ => ⟨S24576x32x128, .f32⟩
  | .hbm, ⟨16, _⟩ => ⟨S24576x4096, .f32⟩
  | .hbm, ⟨17, _⟩ => ⟨S24576x4096, .bf16⟩
  | .hbm, ⟨18, _⟩ => ⟨S4096x1x11008, .fp8e4m3⟩
  | .hbm, ⟨19, _⟩ => ⟨S4096x11008, .fp8e4m3⟩
  | .hbm, ⟨20, _⟩ => ⟨S32x1x86, .f32⟩
  | .hbm, ⟨21, _⟩ => ⟨S32x86, .f32⟩
  | .hbm, ⟨22, _⟩ => ⟨S32x128x86, .f32⟩
  | .hbm, ⟨23, _⟩ => ⟨S4096x86, .f32⟩
  | .hbm, ⟨24, _⟩ => ⟨S4096x86x128, .f32⟩
  | .hbm, ⟨25, _⟩ => ⟨S4096x11008, .f32⟩
  | .hbm, ⟨26, _⟩ => ⟨S4096x11008, .bf16⟩
  | .hbm, ⟨27, _⟩ => ⟨S4096x1x11008, .fp8e4m3⟩
  | .hbm, ⟨28, _⟩ => ⟨S4096x11008, .fp8e4m3⟩
  | .hbm, ⟨29, _⟩ => ⟨S32x1x86, .f32⟩
  | .hbm, ⟨30, _⟩ => ⟨S32x86, .f32⟩
  | .hbm, ⟨31, _⟩ => ⟨S32x128x86, .f32⟩
  | .hbm, ⟨32, _⟩ => ⟨S4096x86, .f32⟩
  | .hbm, ⟨33, _⟩ => ⟨S4096x86x128, .f32⟩
  | .hbm, ⟨34, _⟩ => ⟨S4096x11008, .f32⟩
  | .hbm, ⟨35, _⟩ => ⟨S4096x11008, .bf16⟩
  | .hbm, ⟨36, _⟩ => ⟨S86x128x32, .f32⟩
  | .hbm, ⟨37, _⟩ => ⟨S11008x32, .f32⟩
  | .hbm, ⟨38, _⟩ => ⟨S11008x32x128, .f32⟩
  | .hbm, ⟨39, _⟩ => ⟨S11008x4096, .f32⟩
  | .hbm, ⟨40, _⟩ => ⟨S11008x4096, .bf16⟩
  | .hbm, ⟨41, _⟩ => ⟨S4096x2x11008, .f32⟩
  | .hbm, ⟨42, _⟩ => ⟨S11008x4096, .f32⟩
  | .local _ .vmem, ⟨0, _⟩ => ⟨S24576x4096, .fp8e4m3⟩
  | .local _ .vmem, ⟨1, _⟩ => ⟨S24576x4096, .bf16⟩
  | .local _ .vmem, ⟨2, _⟩ => ⟨S24576x4096, .fp8e5m2⟩
  | .local _ .vmem, ⟨3, _⟩ => ⟨S24576x4096, .bf16⟩
  | .local _ .vmem, ⟨4, _⟩ => ⟨S4096x11008, .fp8e4m3⟩
  | .local _ .vmem, ⟨5, _⟩ => ⟨S4096x11008, .bf16⟩
  | .local _ .vmem, ⟨6, _⟩ => ⟨S4096x11008, .fp8e4m3⟩
  | .local _ .vmem, ⟨7, _⟩ => ⟨S4096x11008, .bf16⟩
  | .local _ .vmem, ⟨8, _⟩ => ⟨S11008x4096, .fp8e4m3⟩
  | .local _ .vmem, ⟨9, _⟩ => ⟨S11008x4096, .bf16⟩
  | .local _ .vmem, ⟨10, _⟩ => ⟨S4096x2x11008, .f32⟩
  | .local _ .vmem, ⟨11, _⟩ => ⟨S11008x4096, .f32⟩
  | _, _ => ⟨S2x12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S24576x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x11008 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x11008 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x11008 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S11008x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S11008x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x2x11008 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S11008x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Dx.lean ====
abbrev S24576x22016 : Shape := ⟨2, ![24576, 22016]⟩
abbrev S4096x22016 : Shape := ⟨2, ![4096, 22016]⟩
abbrev S24576x4096 : Shape := ⟨2, ![24576, 4096]⟩
abbrev S24576x32 : Shape := ⟨2, ![24576, 32]⟩
abbrev S1024x512 : Shape := ⟨2, ![1024, 512]⟩
abbrev S4096x512 : Shape := ⟨2, ![4096, 512]⟩
abbrev S1024x4096 : Shape := ⟨2, ![1024, 4096]⟩
abbrev S1024x32 : Shape := ⟨2, ![1024, 32]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 9
  | .smem => 0
  | _ => 0

abbrev bufTy : (tb : Table) → Fin (tcTables nBuf tb) → BufTy
  | .hbm, ⟨0, _⟩ => ⟨S24576x22016, .bf16⟩
  | .hbm, ⟨1, _⟩ => ⟨S4096x22016, .bf16⟩
  | .hbm, ⟨2, _⟩ => ⟨S24576x4096, .fp8e5m2⟩
  | .hbm, ⟨3, _⟩ => ⟨S24576x32, .f32⟩
  | .local _ .vmem, ⟨0, _⟩ => ⟨S1024x512, .bf16⟩
  | .local _ .vmem, ⟨1, _⟩ => ⟨S1024x512, .bf16⟩
  | .local _ .vmem, ⟨2, _⟩ => ⟨S4096x512, .bf16⟩
  | .local _ .vmem, ⟨3, _⟩ => ⟨S4096x512, .bf16⟩
  | .local _ .vmem, ⟨4, _⟩ => ⟨S1024x4096, .fp8e5m2⟩
  | .local _ .vmem, ⟨5, _⟩ => ⟨S1024x4096, .fp8e5m2⟩
  | .local _ .vmem, ⟨6, _⟩ => ⟨S1024x32, .f32⟩
  | .local _ .vmem, ⟨7, _⟩ => ⟨S1024x32, .f32⟩
  | .local _ .vmem, ⟨8, _⟩ => ⟨S1024x4096, .f32⟩
  | _, _ => ⟨S24576x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 43], ![false, false]⟩

def k0_cond2 (i : grid0.Coords) : BitVec 1 :=
  let arg1 : BitVec 32 := BitVec.ofNat 32 (i 1).val
  let c42_i32 : BitVec 32 := 42#32
  let v11 : BitVec 1 := Scalar.cmpi .eq arg1 c42_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DxReferenceIdeal.lean ====
abbrev S24576x22016 : Shape := ⟨2, ![24576, 22016]⟩
abbrev S4096x22016 : Shape := ⟨2, ![4096, 22016]⟩
abbrev S24576x4096 : Shape := ⟨2, ![24576, 4096]⟩
abbrev S24576x32 : Shape := ⟨2, ![24576, 32]⟩
abbrev S24576x32x128 : Shape := ⟨3, ![24576, 32, 128]⟩
abbrev S24576x32x1 : Shape := ⟨3, ![24576, 32, 1]⟩

abbrev nBuf : Space → Nat
  | .hbm => 4
  | .vmem => 4
  | .smem => 0
  | _ => 0

abbrev bufTy : (tb : Table) → Fin (tcTables nBuf tb) → BufTy
  | .hbm, ⟨0, _⟩ => ⟨S24576x22016, .bf16⟩
  | .hbm, ⟨1, _⟩ => ⟨S4096x22016, .bf16⟩
  | .hbm, ⟨2, _⟩ => ⟨S24576x4096, .fp8e5m2⟩
  | .hbm, ⟨3, _⟩ => ⟨S24576x32, .f32⟩
  | .local _ .vmem, ⟨0, _⟩ => ⟨S24576x22016, .bf16⟩
  | .local _ .vmem, ⟨1, _⟩ => ⟨S4096x22016, .bf16⟩
  | .local _ .vmem, ⟨2, _⟩ => ⟨S24576x4096, .fp8e5m2⟩
  | .local _ .vmem, ⟨3, _⟩ => ⟨S24576x32, .f32⟩
  | _, _ => ⟨S24576x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24576x22016 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x22016 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x4096 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Run.lean ====
/- The kernel's run with its two result arrays named. -/
module

public import proofs.«01_k».proof.Proof.Gen.KernelIdeal.Frame

@[expose] public section

-- membership in a rectangle of production extents (`View.cover_of_tiled`): the elaborator's structural look
-- recurses once per coordinate of the long axes
set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the two results named: every weakly fair execution of the program ends, and at its end the result arrays hold
    what the chain of regions and host operations leaves there (`W9`), while the argument arrays are as launched. -/
theorem run_values : θ_run defs (onTc (τ := τ) (main (F := F))) ⟨m, fun _ => 0, ρ⟩ (fun r => ∀ c : Dev nD,
      r.2.mem ((c.tc : Thread nD τ).loc main_v17) = W9 m ρ c (Proc.devRef .tc main_v17)
      ∧ r.2.mem ((c.tc : Thread nD τ).loc main_v16) = W9 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c =>
      ⟨h c _ (mem_uc main_v17 (by decide)),
       h c _ (mem_uc main_v16 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Value

end
-- ==== Proof.DeqX.lean ====
/- The arrays `x` and `x` transposed which the input dequantiser leaves. -/
module

public import proofs.«01_k».proof.Proof.Gen.KernelIdeal.Frame.Region0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- A block of input rows dequantised: each code times the scale of its run of 128 columns. -/
def xBlk (A : FVec Ideal S512x4096 .fp8e4m3) (S : FVec Ideal S512x32 .f32) : FVec Ideal S512x4096 .bf16 :=
  fun y => A y * S (ix2 (n0 := 512) (n1 := 32) (y 0) ⟨(y 1 : ℕ) / 128, Nat.div_lt_of_lt_mul (y 1).isLt⟩)

/-- The whole input array dequantised: each code times the scale of its run of 128 columns. -/
def xArr (A : FVec Ideal S24576x4096 .fp8e4m3) (S : FVec Ideal S24576x32 .f32) : FVec Ideal S24576x4096 .bf16 :=
  fun y => A y * S (ix2 (n0 := 24576) (n1 := 32) (y 0) ⟨(y 1 : ℕ) / 128, Nat.div_lt_of_lt_mul (y 1).isLt⟩)

/-- The block the body leaves is the dequantised block. -/
theorem out0_2_at (A : FVec Ideal S512x4096 .fp8e4m3) (S : FVec Ideal S512x32 .f32) (y : S512x4096.Idx) :
    out0_2 (F := Ideal) A S y = xBlk A S y := by
  canon_tiles x h
  all_goals (open_payloads; pointwise [xBlk]; blk_point [])

/-- Where the blocks of each grid point lie: point `t` takes the `t`-th run of 512 rows. -/
theorem idx0 : ∀ t : Fin cfg0.N, win0_0.index t = ![t.val, 0] ∧ win0_1.index t = ![t.val, 0] ∧ win0_2.index t = ![t.val, 0] ∧ win0_3.index t = ![0, t.val] :=
  (by decide +kernel : ∀ t : Fin grid0.N, _)

/-- After the call its output is the dequantised input array. -/
theorem final0 (c : Dev nD) : (dat0 V c).arrAt 2 cfg0.N = xArr (V c main_v0) (V c main_v2) := by
  refine (dat0 V c).arrAt_eq_of_covers 2 _ (by decide +kernel) fun t _ y => ?_
  blk_simp
  rw [after0_2]
  refine (out0_2_at _ _ y).trans ?_
  unfold xBlk xArr
  blk_point [iblk0, idx0 t]

/-- The transposed block the body also leaves: entry `(i, r)` is entry `(r, i)` of the dequantised block. -/
theorem out0_3_at (A : FVec Ideal S512x4096 .fp8e4m3) (S : FVec Ideal S512x32 .f32) (y : S4096x512.Idx) :
    out0_3 (F := Ideal) A S y = xBlk A S (ix2 (n0 := 512) (n1 := 4096) (y 1) (y 0)) := by
  canon_tiles x h
  all_goals (open_payloads; pointwise [xBlk]; blk_point [])

/-- The input array dequantised and transposed. -/
def xtArr (A : FVec Ideal S24576x4096 .fp8e4m3) (S : FVec Ideal S24576x32 .f32) : FVec Ideal S4096x24576 .bf16 :=
  fun y => xArr A S (ix2 (n0 := 24576) (n1 := 4096) (y 1) (y 0))

/-- After the call its second output is the transposed dequantised input array. -/
theorem final0t (c : Dev nD) : (dat0 V c).arrAt 3 cfg0.N = xtArr (V c main_v0) (V c main_v2) := by
  refine (dat0 V c).arrAt_eq_of_covers 3 _ (by decide +kernel) fun t _ y => ?_
  blk_simp
  rw [after0_3]
  refine (out0_3_at _ _ y).trans ?_
  unfold xBlk xtArr xArr
  blk_point [iblk0, idx0 t]

end Cert.KernelIdeal.Value

end
-- ==== Proof.DeqDy.lean ====
/- The array `dy` which the output-gradient dequantiser leaves. -/
module

public import proofs.«01_k».proof.Proof.Gen.KernelIdeal.Frame.Region1
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- A block of output-gradient rows dequantised: each code times the scale of its run of 128 columns. -/
def dyBlk (A : FVec Ideal S512x4096 .fp8e5m2) (S : FVec Ideal S512x32 .f32) : FVec Ideal S512x4096 .bf16 :=
  fun y => A y * S (ix2 (n0 := 512) (n1 := 32) (y 0) ⟨(y 1 : ℕ) / 128, Nat.div_lt_of_lt_mul (y 1).isLt⟩)

/-- The whole output-gradient array dequantised: each code times the scale of its run of 128 columns. -/
def dyArr (A : FVec Ideal S24576x4096 .fp8e5m2) (S : FVec Ideal S24576x32 .f32) : FVec Ideal S24576x4096 .bf16 :=
  fun y => A y * S (ix2 (n0 := 24576) (n1 := 32) (y 0) ⟨(y 1 : ℕ) / 128, Nat.div_lt_of_lt_mul (y 1).isLt⟩)

/-- The block the body leaves is the dequantised block. -/
theorem out1_2_at (A : FVec Ideal S512x4096 .fp8e5m2) (S : FVec Ideal S512x32 .f32) (y : S512x4096.Idx) :
    out1_2 (F := Ideal) A S y = dyBlk A S y := by
  canon_tiles x h
  all_goals (open_payloads; pointwise [dyBlk]; blk_point [])

/-- Where the blocks of each grid point lie: point `t` takes the `t`-th run of 512 rows. -/
theorem idx1 : ∀ t : Fin cfg1.N, win1_0.index t = ![t.val, 0] ∧ win1_1.index t = ![t.val, 0] ∧ win1_2.index t = ![t.val, 0] :=
  (by decide +kernel : ∀ t : Fin grid1.N, _)

/-- After the call its output is the dequantised output-gradient array. -/
theorem final1 (c : Dev nD) : (dat1 V c).arrAt 2 cfg1.N = dyArr (V c main_v1) (V c main_v3) := by
  refine (dat1 V c).arrAt_eq_of_covers 2 _ (by decide +kernel) fun t _ y => ?_
  blk_simp
  rw [after1_2]
  refine (out1_2_at _ _ y).trans ?_
  unfold dyBlk dyArr
  blk_point [iblk1, idx1 t]

end Cert.KernelIdeal.Value

end
-- ==== Proof.DeqWgu.lean ====
/- The interleaved gate/up weights which their dequantiser leaves. -/
module

public import proofs.«01_k».proof.Proof.Gen.KernelIdeal.Frame.Region2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- A block of the interleaved gate/up weights dequantised: the columns come in runs of 256,
gate and up in turn; each code times the scale of its row block. -/
def wguBlk (A : FVec Ideal S2x128x11008 .fp8e4m3) (S : FVec Ideal S1x2x11008 .f32) : FVec Ideal S128x22016 .bf16 :=
  fun y => A (ix3 (n0 := 2) (n1 := 128) (n2 := 11008) ⟨(y 1 : ℕ) / 256 % 2, Nat.mod_lt _ (by decide)⟩ (y 0)
        ⟨(y 1 : ℕ) / 512 * 256 + (y 1 : ℕ) % 256, by have := (y 1).isLt; simp at this; omega⟩)
      * S (ix3 (n0 := 1) (n1 := 2) (n2 := 11008) 0 ⟨(y 1 : ℕ) / 256 % 2, Nat.mod_lt _ (by decide)⟩
        ⟨(y 1 : ℕ) / 512 * 256 + (y 1 : ℕ) % 256, by have := (y 1).isLt; simp at this; omega⟩)

/-- The interleaved gate/up weights dequantised, the whole array. -/
def wguArr (A : FVec Ideal S2x4096x11008 .fp8e4m3) (S : FVec Ideal S32x2x11008 .f32) : FVec Ideal S4096x22016 .bf16 :=
  fun y => A (ix3 (n0 := 2) (n1 := 4096) (n2 := 11008) ⟨(y 1 : ℕ) / 256 % 2, Nat.mod_lt _ (by decide)⟩ (y 0)
        ⟨(y 1 : ℕ) / 512 * 256 + (y 1 : ℕ) % 256, by have := (y 1).isLt; simp at this; omega⟩)
      * S (ix3 (n0 := 32) (n1 := 2) (n2 := 11008) ⟨(y 0 : ℕ) / 128, Nat.div_lt_of_lt_mul (y 0).isLt⟩
        ⟨(y 1 : ℕ) / 256 % 2, Nat.mod_lt _ (by decide)⟩
        ⟨(y 1 : ℕ) / 512 * 256 + (y 1 : ℕ) % 256, by have := (y 1).isLt; simp at this; omega⟩)

/-- The block the body leaves is the dequantised block. -/
theorem out2_2_at (A : FVec Ideal S2x128x11008 .fp8e4m3) (S : FVec Ideal S1x2x11008 .f32) (y : S128x22016.Idx) :
    out2_2 (F := Ideal) A S y = wguBlk A S y := by
  canon_tiles x h
  all_goals (open_payloads; pointwise [wguBlk]; blk_point [])

/-- Where the blocks of each grid point lie: point `t` takes the `t`-th run of 128 rows. -/
theorem idx2 : ∀ t : Fin cfg2.N, win2_0.index t = ![0, t.val, 0] ∧ win2_1.index t = ![t.val, 0, 0] ∧ win2_2.index t = ![t.val, 0] :=
  (by decide +kernel : ∀ t : Fin grid2.N, _)

/-- After the call its output is the dequantised interleaved gate/up weight array. -/
theorem final2 (c : Dev nD) : (dat2 V c).arrAt 2 cfg2.N = wguArr (V c main_v4) (V c main_v6) := by
  refine (dat2 V c).arrAt_eq_of_covers 2 _ (by decide +kernel) fun t _ y => ?_
  blk_simp
  rw [after2_2]
  refine (out2_2_at _ _ y).trans ?_
  unfold wguBlk wguArr
  blk_point [iblk2, idx2 t]

end Cert.KernelIdeal.Value

end
-- ==== Proof.DeqWd.lean ====
/- The array `wd` which the down-projection dequantiser leaves. -/
module

public import proofs.«01_k».proof.Proof.Gen.KernelIdeal.Frame.Region3
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The dequantised down weights: row `r`'s code times the scale of its block of 128 rows at that column. -/
def wdArr (A : FVec Ideal S11008x4096 .fp8e4m3) (S : FVec Ideal S86x1x4096 .f32) : FVec Ideal S11008x4096 .bf16 :=
  fun j => A j * S (ix3 (n0 := 86) (n1 := 1) (n2 := 4096) ⟨(j 0 : ℕ) / 128, Nat.div_lt_of_lt_mul (j 0).isLt⟩ 0 (j 1))

/-- The windows' block indices: point `t` is on row block `t`. -/
theorem idx3 : ∀ t : Fin cfg3.N, win3_0.index t = ![t.val, 0] ∧ win3_1.index t = ![t.val, 0, 0] ∧ win3_2.index t = ![t.val, 0] :=
  (by decide +kernel : ∀ t : Fin grid3.N, _)

/-- After the region its array is the dequantised down weights. -/
theorem final3 (c : Dev nD) : (dat3 V c).arrAt 2 cfg3.N = wdArr (V c main_arg6) (V c main_v9) := by
  refine (dat3 V c).arrAt_eq_of_covers 2 _ (by decide +kernel) fun t _ y => ?_
  blk_simp
  rw [after3_2]; frame_out
  pointwise [k3_pay1, wdArr]
  blk_point [iblk3, idx3 t]

end Cert.KernelIdeal.Value

end
-- ==== Proof.Unit.lean ====
module

public import Idealize.ShloMosaic.Lib.Pipeline.ValueKit

@[expose] public section

noncomputable section

open Idealize.ShloMosaic

/-! The arithmetic of one hidden unit at one token, over the extended reals. `g` and `u` are the gate and up
pre-activations, `e` is the gradient that reaches the unit's output. Both programs compute these values. -/

namespace Cert.Mlp

/-- The logistic function, `1 / (1 + exp (-g))`. -/
def sigm (g : EReal) : EReal := Ideal.div 1 (1 + Ideal.exp (0 - g))

/-- The unit's output, `silu g * u`. -/
def hid (g u : EReal) : EReal := g * sigm g * u

/-- The gradient at the gate pre-activation. -/
def dgate (g u e : EReal) : EReal := e * u * sigm g * (1 + g * (1 - sigm g))

/-- The gradient at the up pre-activation. -/
def dup (g e : EReal) : EReal := e * g * sigm g

/-! The whole computation, one entry at a time, from the dequantised arrays `X` (input), `Y` (output gradient),
`G` (gate weights), `U` (up weights) and `D` (down-projection weights). -/

/-- One pre-activation: token `t` of the input against unit `f`'s weights. -/
def pre (X : Fin 24576 → Fin 4096 → EReal) (W : Fin 4096 → Fin 11008 → EReal) (t : Fin 24576) (f : Fin 11008) : EReal :=
  ∑ k : Fin 4096, X t k * W k f

/-- The gradient that reaches unit `f`'s output at token `t`. -/
def grad (Y : Fin 24576 → Fin 4096 → EReal) (D : Fin 11008 → Fin 4096 → EReal) (t : Fin 24576) (f : Fin 11008) : EReal :=
  ∑ k : Fin 4096, Y t k * D f k

/-- The gate weights' gradient. -/
def dwGate (X Y : Fin 24576 → Fin 4096 → EReal) (G U : Fin 4096 → Fin 11008 → EReal) (D : Fin 11008 → Fin 4096 → EReal)
    (i : Fin 4096) (f : Fin 11008) : EReal :=
  ∑ t : Fin 24576, X t i * dgate (pre X G t f) (pre X U t f) (grad Y D t f)

/-- The up weights' gradient. -/
def dwUp (X Y : Fin 24576 → Fin 4096 → EReal) (G : Fin 4096 → Fin 11008 → EReal) (D : Fin 11008 → Fin 4096 → EReal)
    (i : Fin 4096) (f : Fin 11008) : EReal :=
  ∑ t : Fin 24576, X t i * dup (pre X G t f) (grad Y D t f)

/-- Both gradients of the first layer's weights: the gate's at `p = 0`, the up weights' at `p = 1`. -/
def dwGu (X Y : Fin 24576 → Fin 4096 → EReal) (G U : Fin 4096 → Fin 11008 → EReal) (D : Fin 11008 → Fin 4096 → EReal)
    (i : Fin 4096) (p : Fin 2) (f : Fin 11008) : EReal :=
  if (p : ℕ) = 0 then dwGate X Y G U D i f else dwUp X Y G D i f

/-- The down-projection weights' gradient. -/
def dwDown (X Y : Fin 24576 → Fin 4096 → EReal) (G U : Fin 4096 → Fin 11008 → EReal) (f : Fin 11008) (d : Fin 4096) : EReal :=
  ∑ t : Fin 24576, hid (pre X G t f) (pre X U t f) * Y t d

/-! The dequantised arrays from the arguments: each code times the scale of its block of 128. -/

/-- A token array (input or output gradient), tokens of the two batch rows one after the other. -/
def deqTok {φ : FTy} (A : FVec Ideal ⟨3, ![2, 12288, 4096]⟩ φ) (S : FVec Ideal ⟨3, ![2, 12288, 32]⟩ .f32) (t : Fin 24576) (k : Fin 4096) : EReal :=
  (A (ix3 (n0 := 2) (n1 := 12288) (n2 := 4096) ⟨(t : ℕ) / 12288, by omega⟩ ⟨(t : ℕ) % 12288, by omega⟩ k) : EReal)
    * (S (ix3 (n0 := 2) (n1 := 12288) (n2 := 32) ⟨(t : ℕ) / 12288, by omega⟩ ⟨(t : ℕ) % 12288, by omega⟩ ⟨(k : ℕ) / 128, by omega⟩) : EReal)

/-- The gate (`p = 0`) or up (`p = 1`) weights. -/
def deqGu (p : Fin 2) (A : FVec Ideal ⟨3, ![4096, 2, 11008]⟩ .fp8e4m3) (S : FVec Ideal ⟨3, ![32, 2, 86]⟩ .f32) (k : Fin 4096) (f : Fin 11008) : EReal :=
  (A (ix3 (n0 := 4096) (n1 := 2) (n2 := 11008) k p f) : EReal)
    * (S (ix3 (n0 := 32) (n1 := 2) (n2 := 86) ⟨(k : ℕ) / 128, by omega⟩ p ⟨(f : ℕ) / 128, by omega⟩) : EReal)

/-- The down-projection weights. -/
def deqDown (A : FVec Ideal ⟨2, ![11008, 4096]⟩ .fp8e4m3) (S : FVec Ideal ⟨2, ![86, 32]⟩ .f32) (f : Fin 11008) (k : Fin 4096) : EReal :=
  (A (ix2 (n0 := 11008) (n1 := 4096) f k) : EReal)
    * (S (ix2 (n0 := 86) (n1 := 32) ⟨(f : ℕ) / 128, by omega⟩ ⟨(k : ℕ) / 128, by omega⟩) : EReal)

end Cert.Mlp

end
-- ==== Proof.Host.lean ====
/- What the host operations before the first kernel make of the arguments, read through the dequantised arrays. -/
module

public import proofs.«01_k».proof.Proof.Gen.KernelIdeal.Frame
public import proofs.«01_k».proof.Proof.DeqX
public import proofs.«01_k».proof.Proof.DeqDy
public import proofs.«01_k».proof.Proof.DeqWgu
public import proofs.«01_k».proof.Proof.DeqWd
public import proofs.«01_k».proof.Proof.Unit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Mlp

/-- The dequantised input array is the reshaped codes times the reshaped scales. -/
theorem tokX_at (A : FVec Ideal S2x12288x4096 .fp8e4m3) (S : FVec Ideal S2x12288x32 .f32) (t : Fin 24576) (k : Fin 4096) :
    xArr (shapeCast S24576x4096 A shapeCasts_S2x12288x4096_S24576x4096) (shapeCast S24576x32 S shapeCasts_S2x12288x32_S24576x32)
      (ix2 (n0 := 24576) (n1 := 4096) t k) = deqTok A S t k := by
  pointwise [xArr, deqTok]

/-- Likewise the output gradient. -/
theorem tokY_at (A : FVec Ideal S2x12288x4096 .fp8e5m2) (S : FVec Ideal S2x12288x32 .f32) (t : Fin 24576) (k : Fin 4096) :
    dyArr (shapeCast S24576x4096 A shapeCasts_S2x12288x4096_S24576x4096) (shapeCast S24576x32 S shapeCasts_S2x12288x32_S24576x32)
      (ix2 (n0 := 24576) (n1 := 4096) t k) = deqTok A S t k := by
  pointwise [dyArr, deqTok]

/-- The gate columns of the interleaved weights. -/
theorem gate_at (A : FVec Ideal S4096x2x11008 .fp8e4m3) (S : FVec Ideal S32x2x86 .f32) (k : Fin 4096) (f : Fin 11008)
    (q : Fin 22016) (hq : (q : ℕ) = (f : ℕ) / 256 * 512 + (f : ℕ) % 256) :
    wguArr (transpose S2x4096x11008 [1, 0, 2] A transposes_S4096x2x11008_S2x4096x11008_1_0_2)
      (shapeCast S32x2x11008 (broadcastInDim S32x2x86x128 ![0, 1, 2] bcast_S32x2x86_S32x2x86x128_0_1_2 S) shapeCasts_S32x2x86x128_S32x2x11008)
      (ix2 (n0 := 4096) (n1 := 22016) k q) = deqGu 0 A S k f := by
  pointwise [wguArr, deqGu]
  have e1 : (⟨(q : ℕ) / 256 % 2, by omega⟩ : Fin 2) = 0 := Fin.ext (by simp; omega)
  have e2 : (⟨(q : ℕ) / 512 * 256 + (q : ℕ) % 256, by omega⟩ : Fin 11008) = f := Fin.ext (by dsimp only; omega)
  have e3 : (⟨((q : ℕ) / 512 * 256 + (q : ℕ) % 256) / 128, by omega⟩ : Fin 86) = ⟨(f : ℕ) / 128, by omega⟩ := Fin.ext (by dsimp only; omega)
  rw [e1, e2, e3]

/-- The up columns of the interleaved weights. -/
theorem up_at (A : FVec Ideal S4096x2x11008 .fp8e4m3) (S : FVec Ideal S32x2x86 .f32) (k : Fin 4096) (f : Fin 11008)
    (q : Fin 22016) (hq : (q : ℕ) = (f : ℕ) / 256 * 512 + 256 + (f : ℕ) % 256) :
    wguArr (transpose S2x4096x11008 [1, 0, 2] A transposes_S4096x2x11008_S2x4096x11008_1_0_2)
      (shapeCast S32x2x11008 (broadcastInDim S32x2x86x128 ![0, 1, 2] bcast_S32x2x86_S32x2x86x128_0_1_2 S) shapeCasts_S32x2x86x128_S32x2x11008)
      (ix2 (n0 := 4096) (n1 := 22016) k q) = deqGu 1 A S k f := by
  pointwise [wguArr, deqGu]
  have e1 : (⟨(q : ℕ) / 256 % 2, by omega⟩ : Fin 2) = 1 := Fin.ext (by simp; omega)
  have e2 : (⟨(q : ℕ) / 512 * 256 + (q : ℕ) % 256, by omega⟩ : Fin 11008) = f := Fin.ext (by dsimp only; omega)
  have e3 : (⟨((q : ℕ) / 512 * 256 + (q : ℕ) % 256) / 128, by omega⟩ : Fin 86) = ⟨(f : ℕ) / 128, by omega⟩ := Fin.ext (by dsimp only; omega)
  rw [e1, e2, e3]

/-- The down-projection weights. -/
theorem down_at (A : FVec Ideal S11008x4096 .fp8e4m3) (S : FVec Ideal S86x32 .f32) (f : Fin 11008) (k : Fin 4096) :
    wdArr A (shapeCast S86x1x4096 (shapeCast S86x4096 (broadcastInDim S86x32x128 ![0, 1] bcast_S86x32_S86x32x128_0_1 S)
        shapeCasts_S86x32x128_S86x4096) shapeCasts_S86x4096_S86x1x4096)
      (ix2 (n0 := 11008) (n1 := 4096) f k) = deqDown A S f k := by
  pointwise [wdArr, deqDown]

variable (m : (ℓ : Loc nD τ sig) → Buf (Elt Ideal) ℓ) (ρ : Dev nD → PrngReg)

/-- The input codes as one list of tokens. -/
theorem V1_v0 (c : Dev nD) : V1 m ρ c main_v0 = shapeCast S24576x4096 (m ((c : Thread nD τ).loc main_arg0)) shapeCasts_S2x12288x4096_S24576x4096 := by
  show StableHlo.after hostOps0 (W0 m ρ c) (Proc.devRef .tc main_v0) = _
  after_results
  try rfl

/-- The input scales as one list of tokens. -/
theorem V1_v2 (c : Dev nD) : V1 m ρ c main_v2 = shapeCast S24576x32 (m ((c : Thread nD τ).loc main_arg1)) shapeCasts_S2x12288x32_S24576x32 := by
  show StableHlo.after hostOps0 (W0 m ρ c) (Proc.devRef .tc main_v2) = _
  after_results
  try rfl

/-- The output gradient's codes as one list of tokens. -/
theorem V1_v1 (c : Dev nD) : V1 m ρ c main_v1 = shapeCast S24576x4096 (m ((c : Thread nD τ).loc main_arg2)) shapeCasts_S2x12288x4096_S24576x4096 := by
  show StableHlo.after hostOps0 (W0 m ρ c) (Proc.devRef .tc main_v1) = _
  after_results
  try rfl

/-- The output gradient's scales as one list of tokens. -/
theorem V1_v3 (c : Dev nD) : V1 m ρ c main_v3 = shapeCast S24576x32 (m ((c : Thread nD τ).loc main_arg3)) shapeCasts_S2x12288x32_S24576x32 := by
  show StableHlo.after hostOps0 (W0 m ρ c) (Proc.devRef .tc main_v3) = _
  after_results
  try rfl

/-- The gate and up codes with the gate or up index first. -/
theorem V1_v4 (c : Dev nD) : V1 m ρ c main_v4 = transpose S2x4096x11008 [1, 0, 2] (m ((c : Thread nD τ).loc main_arg4)) transposes_S4096x2x11008_S2x4096x11008_1_0_2 := by
  show StableHlo.after hostOps0 (W0 m ρ c) (Proc.devRef .tc main_v4) = _
  after_results
  try rfl

/-- The gate and up scales repeated along the columns. -/
theorem V1_v6 (c : Dev nD) : V1 m ρ c main_v6 = shapeCast S32x2x11008 (broadcastInDim S32x2x86x128 ![0, 1, 2] bcast_S32x2x86_S32x2x86x128_0_1_2 (m ((c : Thread nD τ).loc main_arg5))) shapeCasts_S32x2x86x128_S32x2x11008 := by
  show StableHlo.after hostOps0 (W0 m ρ c) (Proc.devRef .tc main_v6) = _
  after_results
  try rfl

/-- The down-projection scales repeated along the columns. -/
theorem V1_v9 (c : Dev nD) : V1 m ρ c main_v9 = shapeCast S86x1x4096 (shapeCast S86x4096 (broadcastInDim S86x32x128 ![0, 1] bcast_S86x32_S86x32x128_0_1 (m ((c : Thread nD τ).loc main_arg7))) shapeCasts_S86x32x128_S86x4096) shapeCasts_S86x4096_S86x1x4096 := by
  show StableHlo.after hostOps0 (W0 m ρ c) (Proc.devRef .tc main_v9) = _
  after_results
  try rfl

end Cert.KernelIdeal.Value

end
-- ==== Proof.Fwd.lean ====
/- The hidden activations (transposed) and the interleaved gate/up gradients which the forward call leaves. -/
module

public import proofs.«01_k».proof.Proof.Gen.KernelIdeal.Frame.Region4
public import proofs.«01_k».proof.Proof.Unit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Mlp

variable (V : (c : Dev nD) → (b : Ref sig .tc) → Buf (Elt Ideal) ((c : Thread nD τ).loc b))

/-- One entry of a block of pre-activations: row `r` of the input block against column `q` of the weight block. -/
def preBlk (W : FVec Ideal S4096x512 .bf16) (X : FVec Ideal S2048x4096 .bf16) (r : Fin 2048) (q : Fin 512) : EReal :=
  ∑ k : Fin 4096, X (ix2 (n0 := 2048) (n1 := 4096) r k) * W (ix2 (n0 := 4096) (n1 := 512) k q)

/-- One entry of a block of gradients at the hidden layer. -/
def gradBlk (Y : FVec Ideal S2048x4096 .bf16) (D : FVec Ideal S256x4096 .bf16) (r : Fin 2048) (q : Fin 256) : EReal :=
  ∑ k : Fin 4096, Y (ix2 (n0 := 2048) (n1 := 4096) r k) * D (ix2 (n0 := 256) (n1 := 4096) q k)

/-- The block of hidden activations, transposed: entry `(q, r)` is unit `q` at token `r`. -/
def htBlk (W : FVec Ideal S4096x512 .bf16) (X : FVec Ideal S2048x4096 .bf16) : FVec Ideal S256x2048 .bf16 := fun y =>
  hid (preBlk W X (y 1) ⟨(y 0 : ℕ), by have := (y 0).isLt; simp at this; omega⟩)
    (preBlk W X (y 1) ⟨256 + (y 0 : ℕ), by have := (y 0).isLt; simp at this; omega⟩)

/-- The block of pre-activation gradients: 256 gate columns, then 256 up columns. -/
def dguBlk (W : FVec Ideal S4096x512 .bf16) (X Y : FVec Ideal S2048x4096 .bf16) (D : FVec Ideal S256x4096 .bf16) : FVec Ideal S2048x512 .bf16 := fun y =>
  if (y 1 : ℕ) < 256 then
    dgate (preBlk W X (y 0) ⟨(y 1 : ℕ) % 256, by omega⟩) (preBlk W X (y 0) ⟨256 + (y 1 : ℕ) % 256, by omega⟩)
      (gradBlk Y D (y 0) ⟨(y 1 : ℕ) % 256, by omega⟩)
  else
    dup (preBlk W X (y 0) ⟨(y 1 : ℕ) % 256, by omega⟩) (gradBlk Y D (y 0) ⟨(y 1 : ℕ) % 256, by omega⟩)

/-- The block of hidden activations the body leaves. -/
theorem out4_4_at (W : FVec Ideal S4096x512 .bf16) (X Y : FVec Ideal S2048x4096 .bf16) (D : FVec Ideal S256x4096 .bf16)
    (y : S256x2048.Idx) : out4_4 (F := Ideal) W X Y D y = htBlk W X y := by
  canon_tiles x h
  all_goals (open_payloads; pointwise [htBlk, hid, sigm, preBlk]; blk_point [])

/-- The block of pre-activation gradients the body leaves. -/
theorem out4_5_at (W : FVec Ideal S4096x512 .bf16) (X Y : FVec Ideal S2048x4096 .bf16) (D : FVec Ideal S256x4096 .bf16)
    (y : S2048x512.Idx) : out4_5 (F := Ideal) W X Y D y = dguBlk W X Y D y := by
  unfold dguBlk
  canon_tiles x h
  all_goals (first
    | rw [if_pos (show (y 1 : ℕ) < 256 by omega)]
    | rw [if_neg (show ¬ (y 1 : ℕ) < 256 by omega)])
  all_goals (open_payloads; pointwise [dgate, dup, sigm, preBlk, gradBlk]; blk_point [])

/-- One pre-activation: token `r` of the input against column `q` of the weights. -/
def preArr (W : FVec Ideal S4096x22016 .bf16) (X : FVec Ideal S24576x4096 .bf16) (r : Fin 24576) (q : Fin 22016) : EReal :=
  ∑ k : Fin 4096, X (ix2 (n0 := 24576) (n1 := 4096) r k) * W (ix2 (n0 := 4096) (n1 := 22016) k q)

/-- One gradient at the hidden layer. -/
def gradArr (Y : FVec Ideal S24576x4096 .bf16) (D : FVec Ideal S11008x4096 .bf16) (r : Fin 24576) (q : Fin 11008) : EReal :=
  ∑ k : Fin 4096, Y (ix2 (n0 := 24576) (n1 := 4096) r k) * D (ix2 (n0 := 11008) (n1 := 4096) q k)

/-- The hidden activations, transposed. Unit `q` has its gate weights in column `q / 256 * 512 + q % 256` of the
interleaved array and its up weights 256 columns further. -/
def htArr (W : FVec Ideal S4096x22016 .bf16) (X : FVec Ideal S24576x4096 .bf16) : FVec Ideal S11008x24576 .bf16 := fun y =>
  hid (preArr W X (y 1) ⟨(y 0 : ℕ) / 256 * 512 + (y 0 : ℕ) % 256, by have := (y 0).isLt; simp at this; omega⟩)
    (preArr W X (y 1) ⟨(y 0 : ℕ) / 256 * 512 + 256 + (y 0 : ℕ) % 256, by have := (y 0).isLt; simp at this; omega⟩)

/-- The pre-activation gradients, gate and up columns interleaved in runs of 256. -/
def dguArr (W : FVec Ideal S4096x22016 .bf16) (X Y : FVec Ideal S24576x4096 .bf16) (D : FVec Ideal S11008x4096 .bf16) : FVec Ideal S24576x22016 .bf16 := fun y =>
  if (y 1 : ℕ) % 512 < 256 then
    dgate (preArr W X (y 0) ⟨(y 1 : ℕ) / 512 * 512 + (y 1 : ℕ) % 256, by have := (y 1).isLt; simp at this; omega⟩)
      (preArr W X (y 0) ⟨(y 1 : ℕ) / 512 * 512 + 256 + (y 1 : ℕ) % 256, by have := (y 1).isLt; simp at this; omega⟩)
      (gradArr Y D (y 0) ⟨(y 1 : ℕ) / 512 * 256 + (y 1 : ℕ) % 256, by have := (y 1).isLt; simp at this; omega⟩)
  else
    dup (preArr W X (y 0) ⟨(y 1 : ℕ) / 512 * 512 + (y 1 : ℕ) % 256, by have := (y 1).isLt; simp at this; omega⟩)
      (gradArr Y D (y 0) ⟨(y 1 : ℕ) / 512 * 256 + (y 1 : ℕ) % 256, by have := (y 1).isLt; simp at this; omega⟩)

/-- Where the blocks of each grid point lie: point `t` takes tokens `t / 43` and hidden units `t % 43`. -/
theorem idx4 : ∀ t : Fin cfg4.N, win4_0.index t = ![0, t.val % 43] ∧ win4_1.index t = ![t.val / 43, 0]
    ∧ win4_2.index t = ![t.val / 43, 0] ∧ win4_3.index t = ![t.val % 43, 0]
    ∧ win4_4.index t = ![t.val % 43, t.val / 43] ∧ win4_5.index t = ![t.val / 43, t.val % 43] ∧ t.val / 43 < 12 :=
  (by decide +kernel : ∀ t : Fin grid4.N, _)

/-- A pre-activation computed from the blocks of point `t` is the one of the whole arrays. -/
theorem preBlk_eq (c : Dev nD) (t : Fin cfg4.N) (r : Fin 2048) (q : Fin 512) (r' : Fin 24576) (q' : Fin 22016)
    (hr : (r' : ℕ) = t.val / 43 * 2048 + r) (hq : (q' : ℕ) = t.val % 43 * 512 + q) :
    preBlk (iblk4 V c 0 t) (iblk4 V c 1 t) r q = preArr (V c main_v12) (V c main_v10_0) r' q' := by
  unfold preBlk preArr
  blk_point [iblk4, idx4 t]

/-- A hidden-layer gradient computed from the blocks of point `t` is the one of the whole arrays. -/
theorem gradBlk_eq (c : Dev nD) (t : Fin cfg4.N) (r : Fin 2048) (q : Fin 256) (r' : Fin 24576) (q' : Fin 11008)
    (hr : (r' : ℕ) = t.val / 43 * 2048 + r) (hq : (q' : ℕ) = t.val % 43 * 256 + q) :
    gradBlk (iblk4 V c 2 t) (iblk4 V c 3 t) r q = gradArr (V c main_v11) (V c main_v13) r' q' := by
  unfold gradBlk gradArr
  blk_point [iblk4, idx4 t]

/-- After the call its first output is the transposed hidden activations. -/
theorem final4 (c : Dev nD) : (dat4 V c).arrAt 4 cfg4.N = htArr (V c main_v12) (V c main_v10_0) := by
  refine (dat4 V c).arrAt_eq_of_covers 4 _ (by decide +kernel) fun t _ y => ?_
  blk_simp
  rw [after4_4]
  refine (out4_4_at _ _ _ _ y).trans ?_
  unfold htBlk htArr
  blk_simp [idx4 t]
  have hy : (y 0 : ℕ) < 256 := (y 0).isLt
  refine congr (congrArg hid (preBlk_eq V c t _ _ _ _ ?_ ?_)) (preBlk_eq V c t _ _ _ _ ?_ ?_)
  all_goals (try blk_simp [idx4 t])
  all_goals (try dsimp only)
  all_goals (try omega)

/-- After the call its second output is the interleaved pre-activation gradients. -/
theorem final4d (c : Dev nD) : (dat4 V c).arrAt 5 cfg4.N
    = dguArr (V c main_v12) (V c main_v10_0) (V c main_v11) (V c main_v13) := by
  refine (dat4 V c).arrAt_eq_of_covers 5 _ (by decide +kernel) fun t _ y => ?_
  blk_simp
  rw [after4_5]
  refine (out4_5_at _ _ _ _ y).trans ?_
  unfold dguBlk dguArr
  blk_simp [idx4 t]
  have hy : (y 1 : ℕ) < 512 := (y 1).isLt
  by_cases hq : (y 1 : ℕ) < 256
  · rw [if_pos hq, if_pos (by omega)]
    refine congr (congr (congrArg dgate (preBlk_eq V c t _ _ _ _ ?_ ?_)) (preBlk_eq V c t _ _ _ _ ?_ ?_))
      (gradBlk_eq V c t _ _ _ _ ?_ ?_)
    all_goals (try blk_simp [idx4 t])
    all_goals (try dsimp only)
    all_goals (try omega)
  · rw [if_neg hq, if_neg (by omega)]
    refine congr (congrArg dup (preBlk_eq V c t _ _ _ _ ?_ ?_)) (gradBlk_eq V c t _ _ _ _ ?_ ?_)
    all_goals (try blk_simp [idx4 t])
    all_goals (try dsimp only)
    all_goals (try omega)

end Cert.KernelIdeal.Value

end
-- ==== Proof.DwGu.lean ====
/- The gate/up weight gradient which its call leaves, accumulated over the blocks of tokens. -/
module

public import proofs.«01_k».proof.Proof.Gen.KernelIdeal.Frame.Region5
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The column of the interleaved gradient array that holds part `k` (0 gate, 1 up) of hidden unit `f`. -/
theorem col_lt (k : Fin 2) (f : Fin 11008) : ((f : ℕ) / 256 * 2 + k) * 256 + (f : ℕ) % 256 < 22016 := by omega

/-- The gate/up weight gradient, part first: every token's input times its pre-activation gradient, summed. -/
def dwguArr (T : FVec Ideal S4096x24576 .bf16) (G : FVec Ideal S24576x22016 .bf16) : FVec Ideal S2x4096x11008 .f32 := fun y =>
  ∑ t : Fin 24576, T (ix2 (n0 := 4096) (n1 := 24576) (y 1) t)
    * G (ix2 (n0 := 24576) (n1 := 22016) t ⟨((y 2 : ℕ) / 256 * 2 + (y 0 : ℕ)) * 256 + (y 2 : ℕ) % 256, col_lt (y 0) (y 2)⟩)

/-- What one grid point adds to its block. -/
def part5 (T : FVec Ideal S4096x2048 .bf16) (G : FVec Ideal S2048x512 .bf16) : FVec Ideal S2x4096x256 .f32 := fun y =>
  ∑ k : Fin 2048, T (ix2 (n0 := 4096) (n1 := 2048) (y 1) k)
    * G (ix2 (n0 := 2048) (n1 := 512) k ⟨(y 0 : ℕ) * 256 + (y 2 : ℕ), by have := (y 0).isLt; have := (y 2).isLt; simp at *; omega⟩)

/-- Where the blocks of each grid point lie: point `t` takes hidden units `t / 12` and tokens `t % 12`. -/
theorem idx5 : ∀ t : Fin cfg5.N, win5_0.index t = ![0, t.val % 12] ∧ win5_1.index t = ![t.val % 12, t.val / 12]
    ∧ win5_2.index t = ![0, 0, t.val / 12] ∧ t.val / 12 < 43 :=
  (by decide +kernel : ∀ t : Fin grid5.N, _)

/-- The zero fill, read back. -/
theorem fill5 (z : S2x4096x256.Idx) : k5_pay1 (F := Ideal) z = 0 := by pointwise [k5_pay1]

/-- The gate slab, loaded right after the zero fill, is zero. -/
theorem gate_read {κ : Kind} {sp : Space} (v : View sig κ sp S2x4096x256 .f32) (j : S1x4096x256.Idx) :
    v.readCov [(⟨Rect.unit ![0, 0, 0] ![2, 4096, 256] inb_S2x4096x256_S2x4096x256_0_0_0, k5_pay1 (F := Ideal)⟩ : View.Piece (Elt Ideal) S2x4096x256 .f32)]
      (Rect.unit (s := S2x4096x256) ![0, 0, 0] ![1, 4096, 256] inb_S2x4096x256_S1x4096x256_0_0_0).toLoadRect j = (0 : EReal) := by
  rw [View.readCov_eq_canon', View.canon_cons_unit_lit' _ _ _ (by decide)]
  exact fill5 _

/-- The up slab, loaded after the zero fill and the store of the gate slab, is zero: the gate store does not touch it. -/
theorem up_read {κ : Kind} {sp : Space} (v : View sig κ sp S2x4096x256 .f32) (Q : S1x4096x256.Idx → Elt Ideal .f32) (j : S1x4096x256.Idx) :
    v.readCov [(⟨Rect.unit ![0, 0, 0] ![1, 4096, 256] inb_S2x4096x256_S1x4096x256_0_0_0, Q⟩ : View.Piece (Elt Ideal) S2x4096x256 .f32),
        ⟨Rect.unit ![0, 0, 0] ![2, 4096, 256] inb_S2x4096x256_S2x4096x256_0_0_0, k5_pay1 (F := Ideal)⟩]
      (Rect.unit (s := S2x4096x256) ![1, 0, 0] ![1, 4096, 256] inb_S2x4096x256_S1x4096x256_1_0_0).toLoadRect j = (0 : EReal) := by
  rw [View.readCov_eq_canon']
  dsimp only
  rw [View.canon_cons_of_not_mem, View.canon_cons_unit_lit' _ _ _ (by decide)]
  · exact fill5 _
  · intro hm
    have h := (Rect.mem_set_unit (inb := inb_S2x4096x256_S1x4096x256_0_0_0).mp hm 0).2
    have h2 : ((Rect.unit (s := S2x4096x256) ![1, 0, 0] ![1, 4096, 256] inb_S2x4096x256_S1x4096x256_1_0_0).idx j 0 : ℕ) = 1 + 1 * (j 0 : ℕ) := rfl
    rw [h2] at h
    simp at h

/-- Two slab stores over a fill, read back: the up store holds the entries of part 1, the gate store those of part 0. -/
theorem slabs_read (P Q : S1x4096x256.Idx → Elt Ideal .f32) (L : List (View.Piece (Elt Ideal) S2x4096x256 .f32)) (y : S2x4096x256.Idx) :
    View.canon ((⟨Rect.unit ![1, 0, 0] ![1, 4096, 256] inb_S2x4096x256_S1x4096x256_1_0_0, P⟩ : View.Piece (Elt Ideal) S2x4096x256 .f32)
        :: ⟨Rect.unit ![0, 0, 0] ![1, 4096, 256] inb_S2x4096x256_S1x4096x256_0_0_0, Q⟩ :: L) y
      = if (y 0 : ℕ) = 0 then Q (ix3 (n0 := 1) (n1 := 4096) (n2 := 256) 0 (y 1) (y 2))
        else P (ix3 (n0 := 1) (n1 := 4096) (n2 := 256) 0 (y 1) (y 2)) := by
  have h2 : (y 0 : ℕ) < 2 := (y 0).isLt
  by_cases h0 : (y 0 : ℕ) = 0
  · rw [if_pos h0, View.canon_cons_of_not_mem]
    · have hy : y = (Rect.unit (s := S2x4096x256) ![0, 0, 0] ![1, 4096, 256] inb_S2x4096x256_S1x4096x256_0_0_0).emb
          (ix3 (n0 := 1) (n1 := 4096) (n2 := 256) 0 (y 1) (y 2)) := by
        funext a
        apply Fin.ext
        fin_cases a
        · exact h0
        · show (y 1 : ℕ) = 0 + 1 * (y 1 : ℕ); omega
        · show (y 2 : ℕ) = 0 + 1 * (y 2 : ℕ); omega
      conv_lhs => rw [hy]
      exact View.canon_cons_emb _ _ _ _
    · intro hm
      have h : 1 ≤ (y 0 : ℕ) := (Rect.mem_set_unit (inb := inb_S2x4096x256_S1x4096x256_1_0_0).mp hm 0).1
      omega
  · rw [if_neg h0]
    have hy : y = (Rect.unit (s := S2x4096x256) ![1, 0, 0] ![1, 4096, 256] inb_S2x4096x256_S1x4096x256_1_0_0).emb
        (ix3 (n0 := 1) (n1 := 4096) (n2 := 256) 0 (y 1) (y 2)) := by
      funext a
      apply Fin.ext
      fin_cases a
      · show (y 0 : ℕ) = 1 + 1 * 0; omega
      · show (y 1 : ℕ) = 0 + 1 * (y 1 : ℕ); omega
      · show (y 2 : ℕ) = 0 + 1 * (y 2 : ℕ); omega
    conv_lhs => rw [hy]
    exact View.canon_cons_emb _ _ _ _

/-- The gate slab's payload: what was there plus the product of the two blocks, gate columns. -/
theorem pay2_at (W : FVec Ideal S1x4096x256 .f32) (T : FVec Ideal S4096x2048 .bf16) (G : FVec Ideal S2048x256 .bf16) (p : Fin 4096) (q : Fin 256) :
    k5_pay2 (F := Ideal) W T G (ix3 (n0 := 1) (n1 := 4096) (n2 := 256) 0 p q)
      = W (ix3 (n0 := 1) (n1 := 4096) (n2 := 256) 0 p q)
        + ∑ k : Fin 2048, T (ix2 (n0 := 4096) (n1 := 2048) p k) * G (ix2 (n0 := 2048) (n1 := 256) k q) := by
  pointwise [k5_pay2]

/-- The up slab's payload, likewise. -/
theorem pay3_at (W : FVec Ideal S1x4096x256 .f32) (T : FVec Ideal S4096x2048 .bf16) (G : FVec Ideal S2048x256 .bf16) (p : Fin 4096) (q : Fin 256) :
    k5_pay3 (F := Ideal) W T G (ix3 (n0 := 1) (n1 := 4096) (n2 := 256) 0 p q)
      = W (ix3 (n0 := 1) (n1 := 4096) (n2 := 256) 0 p q)
        + ∑ k : Fin 2048, T (ix2 (n0 := 4096) (n1 := 2048) p k) * G (ix2 (n0 := 2048) (n1 := 256) k q) := by
  pointwise [k5_pay3]

/-- The first point of a run leaves its own part. -/
theorem outA5 (c : Dev nD) (t : Fin cfg5.N) (h0 : t.val % 12 = 0) (y : S2x4096x256.Idx) :
    outsAt5 V c t.val t.isLt y = 0 + part5 (iblk5 V c 0 t) (iblk5 V c 1 t) y := by
  rw [outsAt5_A V c t h0]
  frame_out
  refine (slabs_read _ _ _ y).trans ?_
  have hy2 : (y 0 : ℕ) < 2 := (y 0).isLt
  by_cases hy : (y 0 : ℕ) = 0
  · rw [if_pos hy]
    refine (pay2_at _ _ _ (y 1) (y 2)).trans ?_
    refine congrArg₂ (· + ·) (gate_read _ _) ?_
    unfold part5
    pointwise []
    blk_point []
  · rw [if_neg hy]
    refine (pay3_at _ _ _ (y 1) (y 2)).trans ?_
    refine congrArg₂ (· + ·) (up_read _ _ _) ?_
    have hy1 : (y 0 : ℕ) = 1 := by omega
    unfold part5
    pointwise []
    blk_point []

/-- Every further point adds its part. -/
theorem outB5 (c : Dev nD) (t : Fin cfg5.N) (h0 : ¬ t.val % 12 = 0) (y : S2x4096x256.Idx) :
    outsAt5 V c t.val t.isLt y = outsAt5 V c (t.val - 1) (Nat.lt_of_le_of_lt (Nat.sub_le _ _) t.isLt) y
      + part5 (iblk5 V c 0 t) (iblk5 V c 1 t) y := by
  rw [outsAt5_B V c t h0]
  frame_out
  refine (slabs_read _ _ _ y).trans ?_
  have hy2 : (y 0 : ℕ) < 2 := (y 0).isLt
  generalize outsAt5 V c (t.val - 1) _ = W
  by_cases hy : (y 0 : ℕ) = 0
  · rw [if_pos hy]
    refine (pay2_at _ _ _ (y 1) (y 2)).trans ?_
    unfold part5
    pointwise []
    blk_point []
  · rw [if_neg hy]
    have hy1 : (y 0 : ℕ) = 1 := by omega
    refine (pay3_at _ _ _ (y 1) (y 2)).trans ?_
    unfold part5
    pointwise []
    blk_point []

/-- After the call its output is the gate/up weight gradient. -/
theorem final5 (c : Dev nD) : (dat5 V c).arrAt 2 cfg5.N = dwguArr (V c main_v10_1) (V c main_v14_1) := by
  refine (dat5 V c).arrAt_eq_of_covers 2 _ (by decide +kernel) fun t hf y => ?_
  blk_simp
  rw [after5_2, Pipeline.eq_sum_fin_of_reset_step_apply_of_flush (fun n h => outsAt5 V c n h) 12 (fun _ => 0)
    (fun t y => part5 (iblk5 V c 0 t) (iblk5 V c 1 t) y) (outA5 V c) (outB5 V c) t ((flush5_2 t).mp hf) y, zero_add]
  unfold part5 dwguArr
  refine Fin.sum_mul_add_congr fun s k hl => ?_
  blk_point [iblk5, idx5 t, idx5 ⟨_, Pipeline.run_point_lt_of_flush t ((flush5_2 t).mp hf) s⟩]

end Cert.KernelIdeal.Value

end
-- ==== Proof.DwDown.lean ====
/- The down-projection weight gradient which its call leaves, accumulated over the blocks of tokens. -/
module

public import proofs.«01_k».proof.Proof.Gen.KernelIdeal.Frame.Region6
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The down-projection weight gradient: every token's hidden activation times its output gradient, summed. -/
def dwdArr (H : FVec Ideal S11008x24576 .bf16) (Y : FVec Ideal S24576x4096 .bf16) : FVec Ideal S11008x4096 .f32 := fun y =>
  ∑ t : Fin 24576, H (ix2 (n0 := 11008) (n1 := 24576) (y 0) t) * Y (ix2 (n0 := 24576) (n1 := 4096) t (y 1))

/-- What one grid point adds to its block. -/
def part6 (H : FVec Ideal S1376x2048 .bf16) (Y : FVec Ideal S2048x2048 .bf16) : FVec Ideal S1376x2048 .f32 := fun y =>
  ∑ k : Fin 2048, H (ix2 (n0 := 1376) (n1 := 2048) (y 0) k) * Y (ix2 (n0 := 2048) (n1 := 2048) k (y 1))

/-- Where the blocks of each grid point lie: point `t` takes tokens `t % 12`, output columns `t / 12 % 2` and hidden
units `t / 24`. -/
theorem idx6 : ∀ t : Fin cfg6.N, win6_0.index t = ![t.val / 24, t.val % 12] ∧ win6_1.index t = ![t.val % 12, t.val / 12 % 2]
    ∧ win6_2.index t = ![t.val / 24, t.val / 12 % 2] ∧ t.val / 24 < 8 :=
  (by decide +kernel : ∀ t : Fin grid6.N, _)

/-- The first point of a run leaves its own part. -/
theorem outA6 (c : Dev nD) (t : Fin cfg6.N) (h0 : t.val % 12 = 0) (y : S1376x2048.Idx) :
    outsAt6 V c t.val t.isLt y = 0 + part6 (iblk6 V c 0 t) (iblk6 V c 1 t) y := by
  rw [outsAt6_A V c t h0]
  frame_out
  pointwise [k6_pay2, k6_pay1, part6]

/-- Every further point adds its part. -/
theorem outB6 (c : Dev nD) (t : Fin cfg6.N) (h0 : ¬ t.val % 12 = 0) (y : S1376x2048.Idx) :
    outsAt6 V c t.val t.isLt y = outsAt6 V c (t.val - 1) (Nat.lt_of_le_of_lt (Nat.sub_le _ _) t.isLt) y
      + part6 (iblk6 V c 0 t) (iblk6 V c 1 t) y := by
  rw [outsAt6_B V c t h0]
  frame_out
  pointwise [k6_pay2, part6]

/-- After the call its output is the down-projection weight gradient. -/
theorem final6 (c : Dev nD) : (dat6 V c).arrAt 2 cfg6.N = dwdArr (V c main_v14_0) (V c main_v11) := by
  refine (dat6 V c).arrAt_eq_of_covers 2 _ (by decide +kernel) fun t hf y => ?_
  blk_simp
  rw [after6_2, Pipeline.eq_sum_fin_of_reset_step_apply_of_flush (fun n h => outsAt6 V c n h) 12 (fun _ => 0)
    (fun t y => part6 (iblk6 V c 0 t) (iblk6 V c 1 t) y) (outA6 V c) (outB6 V c) t ((flush6_2 t).mp hf) y, zero_add]
  unfold part6 dwdArr
  refine Fin.sum_mul_add_congr fun s k hl => ?_
  blk_point [iblk6, idx6 t, idx6 ⟨_, Pipeline.run_point_lt_of_flush t ((flush6_2 t).mp hf) s⟩]

end Cert.KernelIdeal.Value

end
-- ==== Proof.Compose.lean ====
/- The kernel's two result arrays in terms of its arguments: the regions' values put one after the other. -/
module

public import proofs.«01_k».proof.Proof.Host
public import proofs.«01_k».proof.Proof.Fwd
public import proofs.«01_k».proof.Proof.DwGu
public import proofs.«01_k».proof.Proof.DwDown

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Mlp

variable (m : (ℓ : Loc nD τ sig) → Buf (Elt Ideal) ℓ) (ρ : Dev nD → PrngReg)

/-- The dequantised input of device `c`. -/
def argX (c : Dev nD) : Fin 24576 → Fin 4096 → EReal :=
  deqTok (φ := .fp8e4m3) (m ((c : Thread nD τ).loc main_arg0)) (m ((c : Thread nD τ).loc main_arg1))

/-- The dequantised output gradient of device `c`. -/
def argY (c : Dev nD) : Fin 24576 → Fin 4096 → EReal :=
  deqTok (φ := .fp8e5m2) (m ((c : Thread nD τ).loc main_arg2)) (m ((c : Thread nD τ).loc main_arg3))

/-- The dequantised gate (`p = 0`) or up (`p = 1`) weights of device `c`. -/
def argGu (p : Fin 2) (c : Dev nD) : Fin 4096 → Fin 11008 → EReal :=
  deqGu p (m ((c : Thread nD τ).loc main_arg4)) (m ((c : Thread nD τ).loc main_arg5))

/-- The dequantised down-projection weights of device `c`. -/
def argD (c : Dev nD) : Fin 11008 → Fin 4096 → EReal :=
  deqDown (m ((c : Thread nD τ).loc main_arg6)) (m ((c : Thread nD τ).loc main_arg7))

/-! The four dequantised arrays when the forward call is entered. -/

/-- Entry `(t, k)` of the dequantised input array. -/
theorem x_at (c : Dev nD) (t : Fin 24576) (k : Fin 4096) :
    (V5 m ρ c main_v10_0) (ix2 (n0 := 24576) (n1 := 4096) t k) = argX m c t k := by
  have h : V5 m ρ c main_v10_0 = xArr (V1 m ρ c main_v0) (V1 m ρ c main_v2) :=
    (W5_of m ρ c main_v10_0 (by decide)).trans ((W4_of m ρ c main_v10_0 (by decide)).trans
      ((W3_of m ρ c main_v10_0 (by decide)).trans ((W2_arr m ρ c 2).trans (final0 (V1 m ρ) c))))
  rw [h, V1_v0, V1_v2]
  exact tokX_at _ _ t k

/-- Entry `(k, t)` of the transposed dequantised input array. -/
theorem xt_at (c : Dev nD) (t : Fin 24576) (k : Fin 4096) :
    (V6 m ρ c main_v10_1) (ix2 (n0 := 4096) (n1 := 24576) k t) = argX m c t k := by
  have h : V6 m ρ c main_v10_1 = xtArr (V1 m ρ c main_v0) (V1 m ρ c main_v2) :=
    (W6_of m ρ c main_v10_1 (by decide)).trans ((W5_of m ρ c main_v10_1 (by decide)).trans
      ((W4_of m ρ c main_v10_1 (by decide)).trans
        ((W3_of m ρ c main_v10_1 (by decide)).trans ((W2_arr m ρ c 3).trans (final0t (V1 m ρ) c)))))
  rw [h, V1_v0, V1_v2]
  exact tokX_at _ _ t k

/-- The dequantised output-gradient array when the forward call is entered. -/
theorem dy_eq (c : Dev nD) : V5 m ρ c main_v11 = dyArr (V1 m ρ c main_v1) (V1 m ρ c main_v3) :=
  (W5_of m ρ c main_v11 (by decide)).trans ((W4_of m ρ c main_v11 (by decide)).trans
    ((W3_arr m ρ c 2).trans ((final1 (V2 m ρ) c).trans
      (congr (congrArg dyArr (W2_of m ρ c main_v1 (by decide))) (W2_of m ρ c main_v3 (by decide))))))

/-- Entry `(t, k)` of the dequantised output-gradient array. -/
theorem dy_at (c : Dev nD) (t : Fin 24576) (k : Fin 4096) :
    (V5 m ρ c main_v11) (ix2 (n0 := 24576) (n1 := 4096) t k) = argY m c t k := by
  rw [dy_eq, V1_v1, V1_v3]
  exact tokY_at _ _ t k

/-- The interleaved gate and up weights when the forward call is entered. -/
theorem wgu_eq (c : Dev nD) : V5 m ρ c main_v12 = wguArr (V1 m ρ c main_v4) (V1 m ρ c main_v6) :=
  (W5_of m ρ c main_v12 (by decide)).trans ((W4_arr m ρ c 2).trans ((final2 (V3 m ρ) c).trans
    (congr (congrArg wguArr ((W3_of m ρ c main_v4 (by decide)).trans (W2_of m ρ c main_v4 (by decide))))
      ((W3_of m ρ c main_v6 (by decide)).trans (W2_of m ρ c main_v6 (by decide))))))

/-- A gate column of the interleaved weights. -/
theorem wg_at (c : Dev nD) (k : Fin 4096) (f : Fin 11008) (q : Fin 22016)
    (hq : (q : ℕ) = (f : ℕ) / 256 * 512 + (f : ℕ) % 256) :
    (V5 m ρ c main_v12) (ix2 (n0 := 4096) (n1 := 22016) k q) = argGu m 0 c k f := by
  rw [wgu_eq, V1_v4, V1_v6]
  exact gate_at _ _ k f q hq

/-- An up column of the interleaved weights. -/
theorem wu_at (c : Dev nD) (k : Fin 4096) (f : Fin 11008) (q : Fin 22016)
    (hq : (q : ℕ) = (f : ℕ) / 256 * 512 + 256 + (f : ℕ) % 256) :
    (V5 m ρ c main_v12) (ix2 (n0 := 4096) (n1 := 22016) k q) = argGu m 1 c k f := by
  rw [wgu_eq, V1_v4, V1_v6]
  exact up_at _ _ k f q hq

/-- Entry `(f, k)` of the dequantised down-projection weights when the forward call is entered. -/
theorem wd_at (c : Dev nD) (f : Fin 11008) (k : Fin 4096) :
    (V5 m ρ c main_v13) (ix2 (n0 := 11008) (n1 := 4096) f k) = argD m c f k := by
  have h : V5 m ρ c main_v13 = wdArr (m ((c : Thread nD τ).loc main_arg6)) (V1 m ρ c main_v9) :=
    (W5_arr m ρ c 2).trans ((final3 (V4 m ρ) c).trans
      (congr (congrArg wdArr (W4_args m ρ c main_arg6 (by decide)))
        ((W4_of m ρ c main_v9 (by decide)).trans ((W3_of m ρ c main_v9 (by decide)).trans (W2_of m ρ c main_v9 (by decide))))))
  rw [h, V1_v9]
  exact down_at _ _ f k

/-! The pre-activations and the gradient that the forward call forms. -/

/-- The gate pre-activation of token `t` and unit `f`. -/
theorem preG_eq (c : Dev nD) (t : Fin 24576) (f : Fin 11008) (q : Fin 22016)
    (hq : (q : ℕ) = (f : ℕ) / 256 * 512 + (f : ℕ) % 256) :
    preArr (V5 m ρ c main_v12) (V5 m ρ c main_v10_0) t q = pre (argX m c) (argGu m 0 c) t f := by
  unfold preArr pre
  exact Finset.sum_congr rfl fun k _ => congr (congrArg _ (x_at m ρ c t k)) (wg_at m ρ c k f q hq)

/-- The up pre-activation of token `t` and unit `f`. -/
theorem preU_eq (c : Dev nD) (t : Fin 24576) (f : Fin 11008) (q : Fin 22016)
    (hq : (q : ℕ) = (f : ℕ) / 256 * 512 + 256 + (f : ℕ) % 256) :
    preArr (V5 m ρ c main_v12) (V5 m ρ c main_v10_0) t q = pre (argX m c) (argGu m 1 c) t f := by
  unfold preArr pre
  exact Finset.sum_congr rfl fun k _ => congr (congrArg _ (x_at m ρ c t k)) (wu_at m ρ c k f q hq)

/-- The gradient at unit `f`'s output for token `t`. -/
theorem grad_eq (c : Dev nD) (t : Fin 24576) (f f' : Fin 11008) (hf : (f' : ℕ) = (f : ℕ)) :
    gradArr (V5 m ρ c main_v11) (V5 m ρ c main_v13) t f' = grad (argY m c) (argD m c) t f := by
  obtain rfl : f' = f := Fin.ext hf
  unfold gradArr grad
  exact Finset.sum_congr rfl fun k _ => congr (congrArg _ (dy_at m ρ c t k)) (wd_at m ρ c f' k)

/-- Entry `(f, t)` of the hidden activations. -/
theorem ht_at (c : Dev nD) (f : Fin 11008) (t : Fin 24576) :
    (V6 m ρ c main_v14_0) (ix2 (n0 := 11008) (n1 := 24576) f t)
      = hid (pre (argX m c) (argGu m 0 c) t f) (pre (argX m c) (argGu m 1 c) t f) := by
  have h : V6 m ρ c main_v14_0 = htArr (V5 m ρ c main_v12) (V5 m ρ c main_v10_0) :=
    (W6_arr m ρ c 4).trans (final4 (V5 m ρ) c)
  rw [h]
  unfold htArr
  exact congr (congrArg hid (preG_eq m ρ c t f _ rfl)) (preU_eq m ρ c t f _ rfl)

/-- The pre-activation gradients: unit `f`'s gate gradient lies in column `f / 256 * 512 + f % 256`. -/
theorem dg_at (c : Dev nD) (t : Fin 24576) (f : Fin 11008) (q : Fin 22016)
    (hq : (q : ℕ) = (f : ℕ) / 256 * 512 + (f : ℕ) % 256) :
    (V6 m ρ c main_v14_1) (ix2 (n0 := 24576) (n1 := 22016) t q)
      = dgate (pre (argX m c) (argGu m 0 c) t f) (pre (argX m c) (argGu m 1 c) t f) (grad (argY m c) (argD m c) t f) := by
  have h : V6 m ρ c main_v14_1 = dguArr (V5 m ρ c main_v12) (V5 m ρ c main_v10_0) (V5 m ρ c main_v11) (V5 m ρ c main_v13) :=
    (W6_arr m ρ c 5).trans (final4d (V5 m ρ) c)
  rw [h]
  unfold dguArr
  refine (if_pos (show (q : ℕ) % 512 < 256 by omega)).trans ?_
  refine congr (congr (congrArg dgate (preG_eq m ρ c t f _ ?_)) (preU_eq m ρ c t f _ ?_)) (grad_eq m ρ c t f _ ?_)
  · show (q : ℕ) / 512 * 512 + (q : ℕ) % 256 = _; omega
  · show (q : ℕ) / 512 * 512 + 256 + (q : ℕ) % 256 = _; omega
  · show (q : ℕ) / 512 * 256 + (q : ℕ) % 256 = _; omega

/-- Unit `f`'s up gradient lies in column `f / 256 * 512 + 256 + f % 256`. -/
theorem du_at (c : Dev nD) (t : Fin 24576) (f : Fin 11008) (q : Fin 22016)
    (hq : (q : ℕ) = (f : ℕ) / 256 * 512 + 256 + (f : ℕ) % 256) :
    (V6 m ρ c main_v14_1) (ix2 (n0 := 24576) (n1 := 22016) t q)
      = dup (pre (argX m c) (argGu m 0 c) t f) (grad (argY m c) (argD m c) t f) := by
  have h : V6 m ρ c main_v14_1 = dguArr (V5 m ρ c main_v12) (V5 m ρ c main_v10_0) (V5 m ρ c main_v11) (V5 m ρ c main_v13) :=
    (W6_arr m ρ c 5).trans (final4d (V5 m ρ) c)
  rw [h]
  unfold dguArr
  refine (if_neg (show ¬ (q : ℕ) % 512 < 256 by omega)).trans ?_
  refine congr (congrArg dup (preG_eq m ρ c t f _ ?_)) (grad_eq m ρ c t f _ ?_)
  · show (q : ℕ) / 512 * 512 + (q : ℕ) % 256 = _; omega
  · show (q : ℕ) / 512 * 256 + (q : ℕ) % 256 = _; omega

/-! The two results. -/

/-- The first result: the gradients of the gate and up weights. -/
theorem result_gu (c : Dev nD) (y : S4096x2x11008.Idx) : W9 m ρ c (Proc.devRef .tc main_v17) y
    = dwGu (argX m c) (argY m c) (argGu m 0 c) (argGu m 1 c) (argD m c) (y 0) (y 1) (y 2) := by
  have h15 : V7 m ρ c main_v15 = dwguArr (V6 m ρ c main_v10_1) (V6 m ρ c main_v14_1) :=
    (W7_arr m ρ c 2).trans (final5 (V6 m ρ) c)
  have h17 : W9 m ρ c (Proc.devRef .tc main_v17)
      = transpose S4096x2x11008 [1, 0, 2] (V8 m ρ c main_v15) transposes_S2x4096x11008_S4096x2x11008_1_0_2 := by
    show StableHlo.after hostOps7 (W8 m ρ c) (Proc.devRef .tc main_v17) = _
    after_results
    try rfl
  have h8 : V8 m ρ c main_v15 = V7 m ρ c main_v15 := W8_of m ρ c main_v15 (by decide)
  rw [h17, h8, h15]
  have hp : ((y 1 : Fin 2) : ℕ) < 2 := (y 1).isLt
  refine (show _ = dwguArr (V6 m ρ c main_v10_1) (V6 m ρ c main_v14_1) (ix3 (n0 := 2) (n1 := 4096) (n2 := 11008) (y 1) (y 0) (y 2)) from ?_).trans ?_
  · generalize dwguArr (V6 m ρ c main_v10_1) (V6 m ρ c main_v14_1) = B
    pointwise []
  unfold dwguArr dwGu
  split
  · unfold dwGate
    refine Finset.sum_congr rfl fun t _ => congr (congrArg _ (xt_at m ρ c t (y 0))) (dg_at m ρ c t (y 2) _ ?_)
    show (((y 2 : Fin 11008) : ℕ) / 256 * 2 + ((y 1 : Fin 2) : ℕ)) * 256 + ((y 2 : Fin 11008) : ℕ) % 256 = _
    omega
  · unfold dwUp
    refine Finset.sum_congr rfl fun t _ => congr (congrArg _ (xt_at m ρ c t (y 0))) (du_at m ρ c t (y 2) _ ?_)
    show (((y 2 : Fin 11008) : ℕ) / 256 * 2 + ((y 1 : Fin 2) : ℕ)) * 256 + ((y 2 : Fin 11008) : ℕ) % 256 = _
    omega

/-- The second result: the gradient of the down-projection weights. -/
theorem result_down (c : Dev nD) (y : S11008x4096.Idx) : W9 m ρ c (Proc.devRef .tc main_v16) y
    = dwDown (argX m c) (argY m c) (argGu m 0 c) (argGu m 1 c) (y 0) (y 1) := by
  have h : W9 m ρ c (Proc.devRef .tc main_v16) = dwdArr (V7 m ρ c main_v14_0) (V7 m ρ c main_v11) :=
    (W9_of m ρ c main_v16 (by decide)).trans ((W8_arr m ρ c 2).trans (final6 (V7 m ρ) c))
  have h14 : V7 m ρ c main_v14_0 = V6 m ρ c main_v14_0 := W7_of m ρ c main_v14_0 (by decide)
  have h11 : V7 m ρ c main_v11 = V5 m ρ c main_v11 :=
    (W7_of m ρ c main_v11 (by decide)).trans (W6_of m ρ c main_v11 (by decide))
  refine (show _ = dwdArr (V6 m ρ c main_v14_0) (V5 m ρ c main_v11) y by rw [h, h14, h11]).trans ?_
  unfold dwdArr dwDown
  exact Finset.sum_congr rfl fun t _ => congr (congrArg _ (ht_at m ρ c (y 0) t)) (dy_at m ρ c t (y 1))

end Cert.KernelIdeal.Value

end
-- ==== Proof.Ref.lean ====
/- The reference's two result arrays in terms of its arguments. -/
module

public import proofs.«01_k».proof.Proof.Gen.ReferenceIdeal.Value
public import proofs.«01_k».proof.Proof.Unit
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.Mlp

/-- A code array times its array of repeated scales, for arrays of `n0` rows and `n1` columns. -/
def scaled {n0 n1 : ℕ} {φ : FTy} (A : FVec Ideal ⟨2, ![n0, n1]⟩ φ) (S : FVec Ideal ⟨2, ![n0, n1]⟩ .bf16) (i : Fin n0) (j : Fin n1) : EReal :=
  (A (ix2 (n0 := n0) (n1 := n1) i j) : EReal) * (S (ix2 (n0 := n0) (n1 := n1) i j) : EReal)

/-- The dequantised input. -/
theorem pay4_at (A : FVec Ideal S24576x4096 .fp8e4m3) (S : FVec Ideal S24576x4096 .bf16) (t : Fin 24576) (k : Fin 4096) :
    k0_pay4 (F := Ideal) A S (ix2 (n0 := 24576) (n1 := 4096) t k) = scaled (φ := .fp8e4m3) A S t k := by
  open_payloads
  pointwise [scaled]

/-- The dequantised output gradient. -/
theorem pay5_at (A : FVec Ideal S24576x4096 .fp8e5m2) (S : FVec Ideal S24576x4096 .bf16) (t : Fin 24576) (k : Fin 4096) :
    k0_pay5 (F := Ideal) A S (ix2 (n0 := 24576) (n1 := 4096) t k) = scaled (φ := .fp8e5m2) A S t k := by
  open_payloads
  pointwise [scaled]

/-- The gate pre-activations. -/
theorem pay6_at (A : FVec Ideal S24576x4096 .fp8e4m3) (S : FVec Ideal S24576x4096 .bf16) (W : FVec Ideal S4096x11008 .fp8e4m3)
    (R : FVec Ideal S4096x11008 .bf16) (t : Fin 24576) (f : Fin 11008) :
    k0_pay6 (F := Ideal) A S W R (ix2 (n0 := 24576) (n1 := 11008) t f) = pre (scaled (φ := .fp8e4m3) A S) (scaled (φ := .fp8e4m3) W R) t f := by
  open_payloads
  pointwise [scaled, pre]

/-- The up pre-activations. -/
theorem pay7_at (A : FVec Ideal S24576x4096 .fp8e4m3) (S : FVec Ideal S24576x4096 .bf16) (W : FVec Ideal S4096x11008 .fp8e4m3)
    (R : FVec Ideal S4096x11008 .bf16) (t : Fin 24576) (f : Fin 11008) :
    k0_pay7 (F := Ideal) A S W R (ix2 (n0 := 24576) (n1 := 11008) t f) = pre (scaled (φ := .fp8e4m3) A S) (scaled (φ := .fp8e4m3) W R) t f := by
  open_payloads
  pointwise [scaled, pre]

/-- The logistic function of the gate pre-activations. -/
theorem pay8_at (A : FVec Ideal S24576x4096 .fp8e4m3) (S : FVec Ideal S24576x4096 .bf16) (W : FVec Ideal S4096x11008 .fp8e4m3)
    (R : FVec Ideal S4096x11008 .bf16) (y : S24576x11008.Idx) :
    k0_pay8 (F := Ideal) A S W R y = sigm (k0_pay6 (F := Ideal) A S W R y) := by
  unfold k0_pay8
  generalize k0_pay6 (F := Ideal) A S W R = B
  pointwise [sigm, Ideal.logistic]
  rw [zero_sub]

/-- The gradient that reaches the hidden layer. -/
theorem pay10_at (A : FVec Ideal S24576x4096 .fp8e5m2) (S : FVec Ideal S24576x4096 .bf16) (W : FVec Ideal S11008x4096 .fp8e4m3)
    (R : FVec Ideal S11008x4096 .bf16) (t : Fin 24576) (f : Fin 11008) :
    k0_pay10 (F := Ideal) A S W R (ix2 (n0 := 24576) (n1 := 11008) t f) = grad (scaled (φ := .fp8e5m2) A S) (scaled (φ := .fp8e4m3) W R) t f := by
  open_payloads
  pointwise [scaled, grad]

/-- The hidden activations from the pre-activations. -/
theorem pay9_at (A : FVec Ideal S24576x4096 .fp8e4m3) (S : FVec Ideal S24576x4096 .bf16) (G : FVec Ideal S4096x11008 .fp8e4m3)
    (R : FVec Ideal S4096x11008 .bf16) (U : FVec Ideal S4096x11008 .fp8e4m3) (Q : FVec Ideal S4096x11008 .bf16) (t : Fin 24576) (f : Fin 11008) :
    k0_pay9 (F := Ideal) A S G R U Q (ix2 (n0 := 24576) (n1 := 11008) t f)
      = hid (pre (scaled (φ := .fp8e4m3) A S) (scaled (φ := .fp8e4m3) G R) t f) (pre (scaled (φ := .fp8e4m3) A S) (scaled (φ := .fp8e4m3) U Q) t f) := by
  rw [← pay6_at, ← pay7_at]
  unfold k0_pay9 hid
  rw [← pay8_at]
  generalize k0_pay6 (F := Ideal) A S G R = B
  generalize k0_pay8 (F := Ideal) A S G R = B'
  generalize k0_pay7 (F := Ideal) A S U Q = C
  pointwise []

/-- The gate gradient's weights from the logistic of the gate. -/
theorem pay1_at (X : FVec Ideal S24576x4096 .bf16) (g l e : FVec Ideal S24576x11008 .f32) (y : S4096x1x11008.Idx) :
    k0_pay1 (F := Ideal) X g l e y = ∑ t : Fin 24576, (X (ix2 (n0 := 24576) (n1 := 4096) t (y 0)) : EReal)
      * ((e (ix2 (n0 := 24576) (n1 := 11008) t (y 2)) : EReal) * l (ix2 (n0 := 24576) (n1 := 11008) t (y 2))
        * (1 + g (ix2 (n0 := 24576) (n1 := 11008) t (y 2)) * (1 - l (ix2 (n0 := 24576) (n1 := 11008) t (y 2))))) := by
  open_payloads
  pointwise []

/-- The up gradient's weights from the logistic of the gate. -/
theorem pay2_at (X : FVec Ideal S24576x4096 .bf16) (g l e : FVec Ideal S24576x11008 .f32) (y : S4096x1x11008.Idx) :
    k0_pay2 (F := Ideal) X g l e y = ∑ t : Fin 24576, (X (ix2 (n0 := 24576) (n1 := 4096) t (y 0)) : EReal)
      * ((e (ix2 (n0 := 24576) (n1 := 11008) t (y 2)) : EReal) * g (ix2 (n0 := 24576) (n1 := 11008) t (y 2))
        * l (ix2 (n0 := 24576) (n1 := 11008) t (y 2))) := by
  open_payloads
  pointwise []

/-- The down-projection weights' gradient from the hidden activations. -/
theorem pay3_at (Y : FVec Ideal S24576x4096 .bf16) (H : FVec Ideal S24576x11008 .bf16) (y : S11008x4096.Idx) :
    k0_pay3 (F := Ideal) Y H y = ∑ t : Fin 24576, (H (ix2 (n0 := 24576) (n1 := 11008) t (y 0)) : EReal)
      * Y (ix2 (n0 := 24576) (n1 := 4096) t (y 1)) := by
  open_payloads
  pointwise []

/-- A load of a whole token block is the block. -/
theorem ld_r0 {e : EltTy} (A : S24576x4096.Idx → Elt Ideal e) : View.ld (Val := Elt Ideal) A r0_0 = A :=
  View.ld_unit_lit _ A (by decide)

/-- A load of a whole gate or up block is the block. -/
theorem ld_r1 {e : EltTy} (A : S4096x11008.Idx → Elt Ideal e) : View.ld (Val := Elt Ideal) A r0_1 = A :=
  View.ld_unit_lit _ A (by decide)

/-- A load of a whole down-projection block is the block. -/
theorem ld_r2 {e : EltTy} (A : S11008x4096.Idx → Elt Ideal e) : View.ld (Val := Elt Ideal) A r0_2 = A :=
  View.ld_unit_lit _ A (by decide)

/-- The gate gradient's weights in one formula. -/
theorem gate_eq (x0 : FVec Ideal S24576x4096 .fp8e4m3) (x1 : FVec Ideal S24576x4096 .bf16) (x2 : FVec Ideal S24576x4096 .fp8e5m2)
    (x3 : FVec Ideal S24576x4096 .bf16) (x4 : FVec Ideal S4096x11008 .fp8e4m3) (x5 : FVec Ideal S4096x11008 .bf16)
    (x6 : FVec Ideal S4096x11008 .fp8e4m3) (x7 : FVec Ideal S4096x11008 .bf16) (x8 : FVec Ideal S11008x4096 .fp8e4m3)
    (x9 : FVec Ideal S11008x4096 .bf16) (x : S4096x1x11008.Idx) :
    k0_pay1 (F := Ideal) (k0_pay4 x0 x1) (k0_pay6 x0 x1 x4 x5) (k0_pay8 x0 x1 x4 x5) (k0_pay11 x0 x1 x2 x3 x6 x7 x8 x9) x
      = dwGate (scaled (φ := .fp8e4m3) x0 x1) (scaled (φ := .fp8e5m2) x2 x3) (scaled (φ := .fp8e4m3) x4 x5) (scaled (φ := .fp8e4m3) x6 x7)
          (scaled (φ := .fp8e4m3) x8 x9) (x 0) (x 2) := by
  refine (pay1_at _ _ _ _ x).trans ?_
  unfold dwGate dgate
  refine Finset.sum_congr rfl fun t _ => ?_
  have e11 : k0_pay11 (F := Ideal) x0 x1 x2 x3 x6 x7 x8 x9 (ix2 (n0 := 24576) (n1 := 11008) t (x 2))
      = (k0_pay10 (F := Ideal) x2 x3 x8 x9 (ix2 (n0 := 24576) (n1 := 11008) t (x 2)) : EReal)
        * k0_pay7 (F := Ideal) x0 x1 x6 x7 (ix2 (n0 := 24576) (n1 := 11008) t (x 2)) := rfl
  rw [pay8_at, e11]
  have key : ∀ g g' u u' d d' : EReal, g = g' → u = u' → d = d' →
      d * u * sigm g * (1 + g * (1 - sigm g)) = d' * u' * sigm g' * (1 + g' * (1 - sigm g')) := by
    rintro g _ u _ d _ rfl rfl rfl; rfl
  exact congr (congrArg _ (pay4_at x0 x1 t (x 0)))
    (key _ _ _ _ _ _ (pay6_at x0 x1 x4 x5 t (x 2)) (pay7_at x0 x1 x6 x7 t (x 2)) (pay10_at x2 x3 x8 x9 t (x 2)))

/-- The up gradient's weights in one formula. -/
theorem up_eq (x0 : FVec Ideal S24576x4096 .fp8e4m3) (x1 : FVec Ideal S24576x4096 .bf16) (x2 : FVec Ideal S24576x4096 .fp8e5m2)
    (x3 : FVec Ideal S24576x4096 .bf16) (x4 : FVec Ideal S4096x11008 .fp8e4m3) (x5 : FVec Ideal S4096x11008 .bf16)
    (x6 : FVec Ideal S4096x11008 .fp8e4m3) (x7 : FVec Ideal S4096x11008 .bf16) (x8 : FVec Ideal S11008x4096 .fp8e4m3)
    (x9 : FVec Ideal S11008x4096 .bf16) (x : S4096x1x11008.Idx) :
    k0_pay2 (F := Ideal) (k0_pay4 x0 x1) (k0_pay6 x0 x1 x4 x5) (k0_pay8 x0 x1 x4 x5) (k0_pay10 x2 x3 x8 x9) x
      = dwUp (scaled (φ := .fp8e4m3) x0 x1) (scaled (φ := .fp8e5m2) x2 x3) (scaled (φ := .fp8e4m3) x4 x5)
          (scaled (φ := .fp8e4m3) x8 x9) (x 0) (x 2) := by
  refine (pay2_at _ _ _ _ x).trans ?_
  unfold dwUp dup
  refine Finset.sum_congr rfl fun t _ => ?_
  rw [pay8_at]
  have key : ∀ g g' d d' : EReal, g = g' → d = d' → d * g * sigm g = d' * g' * sigm g' := by
    rintro g _ d _ rfl rfl; rfl
  exact congr (congrArg _ (pay4_at x0 x1 t (x 0)))
    (key _ _ _ _ (pay6_at x0 x1 x4 x5 t (x 2)) (pay10_at x2 x3 x8 x9 t (x 2)))

/-- The second result: the gradient of the down-projection weights. -/
theorem out11_at (x0 : FVec Ideal S24576x4096 .fp8e4m3) (x1 : FVec Ideal S24576x4096 .bf16) (x2 : FVec Ideal S24576x4096 .fp8e5m2)
    (x3 : FVec Ideal S24576x4096 .bf16) (x4 : FVec Ideal S4096x11008 .fp8e4m3) (x5 : FVec Ideal S4096x11008 .bf16)
    (x6 : FVec Ideal S4096x11008 .fp8e4m3) (x7 : FVec Ideal S4096x11008 .bf16) (x8 : FVec Ideal S11008x4096 .fp8e4m3)
    (x9 : FVec Ideal S11008x4096 .bf16) (y : S11008x4096.Idx) :
    out0_11 (F := Ideal) x0 x1 x2 x3 x4 x5 x6 x7 x8 x9 y
      = dwDown (scaled (φ := .fp8e4m3) x0 x1) (scaled (φ := .fp8e5m2) x2 x3) (scaled (φ := .fp8e4m3) x4 x5) (scaled (φ := .fp8e4m3) x6 x7) (y 0) (y 1) := by
  canon_tiles x h
  simp only [ld_r0, ld_r1, ld_r2]
  refine Eq.trans (b := dwDown (scaled (φ := .fp8e4m3) x0 x1) (scaled (φ := .fp8e5m2) x2 x3) (scaled (φ := .fp8e4m3) x4 x5) (scaled (φ := .fp8e4m3) x6 x7) (x 0) (x 1)) ?_
    (congr (congrArg _ (Fin.ext h0.symm)) (Fin.ext h1.symm))
  refine (pay3_at _ _ x).trans ?_
  unfold dwDown
  exact Finset.sum_congr rfl fun t _ => congr (congrArg _ (pay9_at x0 x1 x4 x5 x6 x7 t (x 0))) (pay5_at x2 x3 t (x 1))

/-- The first result: the gradients of the gate and up weights. -/
theorem out10_at (x0 : FVec Ideal S24576x4096 .fp8e4m3) (x1 : FVec Ideal S24576x4096 .bf16) (x2 : FVec Ideal S24576x4096 .fp8e5m2)
    (x3 : FVec Ideal S24576x4096 .bf16) (x4 : FVec Ideal S4096x11008 .fp8e4m3) (x5 : FVec Ideal S4096x11008 .bf16)
    (x6 : FVec Ideal S4096x11008 .fp8e4m3) (x7 : FVec Ideal S4096x11008 .bf16) (x8 : FVec Ideal S11008x4096 .fp8e4m3)
    (x9 : FVec Ideal S11008x4096 .bf16) (y : S4096x2x11008.Idx) :
    out0_10 (F := Ideal) x0 x1 x2 x3 x4 x5 x6 x7 x8 x9 y
      = dwGu (scaled (φ := .fp8e4m3) x0 x1) (scaled (φ := .fp8e5m2) x2 x3) (scaled (φ := .fp8e4m3) x4 x5) (scaled (φ := .fp8e4m3) x6 x7)
          (scaled (φ := .fp8e4m3) x8 x9) (y 0) (y 1) (y 2) := by
  canon_tiles x h
  all_goals simp only [k0_pay12, k0_pay13, k0_pay14, ld_r0, ld_r1, ld_r2]
  · refine Eq.trans ?_ (if_neg (show ¬ ((y 1 : Fin 2) : ℕ) = 0 by omega)).symm
    exact (up_eq x0 x1 x2 x3 x4 x5 x6 x7 x8 x9 x).trans (congr (congrArg _ (Fin.ext h0.symm)) (Fin.ext h2.symm))
  · refine Eq.trans ?_ (if_pos (show ((y 1 : Fin 2) : ℕ) = 0 by omega)).symm
    exact (gate_eq x0 x1 x2 x3 x4 x5 x6 x7 x8 x9 x).trans (congr (congrArg _ (Fin.ext h0.symm)) (Fin.ext h2.symm))

end Cert.ReferenceIdeal.Value

end
-- ==== Proof.RefHost.lean ====
/- The reference's two result arrays in terms of its arguments: what its host operations hand to its body, and the body's value. -/
module

public import proofs.«01_k».proof.Proof.Ref

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.Mlp

/-- The input codes times their repeated scales are the dequantised input. -/
theorem tokX (A : FVec Ideal S2x12288x4096 .fp8e4m3) (S : FVec Ideal S2x12288x32 .f32) :
    scaled (φ := .fp8e4m3) (shapeCast S24576x4096 A shapeCasts_S2x12288x4096_S24576x4096)
      (truncf .bf16 (shapeCast S24576x4096 (broadcastInDim S24576x32x128 ![0, 1] bcast_S24576x32_S24576x32x128_0_1 (shapeCast S24576x32 S shapeCasts_S2x12288x32_S24576x32)) shapeCasts_S24576x32x128_S24576x4096) bitsLt_bf16_f32) = deqTok A S := by
  funext i j
  pointwise [scaled, deqTok]

/-- Likewise the output gradient. -/
theorem tokY (A : FVec Ideal S2x12288x4096 .fp8e5m2) (S : FVec Ideal S2x12288x32 .f32) :
    scaled (φ := .fp8e5m2) (shapeCast S24576x4096 A shapeCasts_S2x12288x4096_S24576x4096)
      (truncf .bf16 (shapeCast S24576x4096 (broadcastInDim S24576x32x128 ![0, 1] bcast_S24576x32_S24576x32x128_0_1 (shapeCast S24576x32 S shapeCasts_S2x12288x32_S24576x32)) shapeCasts_S24576x32x128_S24576x4096) bitsLt_bf16_f32) = deqTok A S := by
  funext i j
  pointwise [scaled, deqTok]

/-- Likewise the gate weights. -/
theorem gateW (A : FVec Ideal S4096x2x11008 .fp8e4m3) (S : FVec Ideal S32x2x86 .f32) :
    scaled (φ := .fp8e4m3) (shapeCast S4096x11008 (extractStridedSlice S4096x1x11008 ![0, 0, 0] A slices_S4096x2x11008_S4096x1x11008_0_0_0) shapeCasts_S4096x1x11008_S4096x11008)
      (truncf .bf16 (shapeCast S4096x11008 (broadcastInDim S4096x86x128 ![0, 1] bcast_S4096x86_S4096x86x128_0_1 (shapeCast S4096x86 (broadcastInDim S32x128x86 ![0, 2] bcast_S32x86_S32x128x86_0_2 (shapeCast S32x86 (extractStridedSlice S32x1x86 ![0, 0, 0] S slices_S32x2x86_S32x1x86_0_0_0) shapeCasts_S32x1x86_S32x86)) shapeCasts_S32x128x86_S4096x86)) shapeCasts_S4096x86x128_S4096x11008) bitsLt_bf16_f32) = deqGu 0 A S := by
  funext i j
  pointwise [scaled, deqGu]

/-- Likewise the up weights. -/
theorem upW (A : FVec Ideal S4096x2x11008 .fp8e4m3) (S : FVec Ideal S32x2x86 .f32) :
    scaled (φ := .fp8e4m3) (shapeCast S4096x11008 (extractStridedSlice S4096x1x11008 ![0, 1, 0] A slices_S4096x2x11008_S4096x1x11008_0_1_0) shapeCasts_S4096x1x11008_S4096x11008)
      (truncf .bf16 (shapeCast S4096x11008 (broadcastInDim S4096x86x128 ![0, 1] bcast_S4096x86_S4096x86x128_0_1 (shapeCast S4096x86 (broadcastInDim S32x128x86 ![0, 2] bcast_S32x86_S32x128x86_0_2 (shapeCast S32x86 (extractStridedSlice S32x1x86 ![0, 1, 0] S slices_S32x2x86_S32x1x86_0_1_0) shapeCasts_S32x1x86_S32x86)) shapeCasts_S32x128x86_S4096x86)) shapeCasts_S4096x86x128_S4096x11008) bitsLt_bf16_f32) = deqGu 1 A S := by
  funext i j
  pointwise [scaled, deqGu]

/-- Likewise the down-projection weights. -/
theorem downW (A : FVec Ideal S11008x4096 .fp8e4m3) (S : FVec Ideal S86x32 .f32) :
    scaled (φ := .fp8e4m3) A
      (truncf .bf16 (shapeCast S11008x4096 (broadcastInDim S11008x32x128 ![0, 1] bcast_S11008x32_S11008x32x128_0_1 (shapeCast S11008x32 (broadcastInDim S86x128x32 ![0, 2] bcast_S86x32_S86x128x32_0_2 S) shapeCasts_S86x128x32_S11008x32)) shapeCasts_S11008x32x128_S11008x4096) bitsLt_bf16_f32) = deqDown A S := by
  funext i j
  pointwise [scaled, deqDown]

variable (m : (ℓ : Loc nD τ sig) → Buf (Elt Ideal) ℓ)

/-! What each operand of the body holds. -/

/-- Every window's block is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- Operand 0. -/
theorem opnd0 (c : Dev nD) : @Eq (FVec Ideal S24576x4096 .fp8e4m3) (iblk m c 0 t0_0) (shapeCast S24576x4096 (m ((c : Thread nD τ).loc main_arg0)) shapeCasts_S2x12288x4096_S24576x4096) := by
  refine Eq.trans (b := V m c main_v0) ?_ ?_
  · blk_ext! [iblk, idx t0_0]
  · show StableHlo.after hostOps0 (fun b => m (c, b)) (Proc.devRef .tc main_v0) = _
    after_results
    try rfl

/-- Operand 1. -/
theorem opnd1 (c : Dev nD) : @Eq (FVec Ideal S24576x4096 .bf16) (iblk m c 1 t0_0) (truncf .bf16 (shapeCast S24576x4096 (broadcastInDim S24576x32x128 ![0, 1] bcast_S24576x32_S24576x32x128_0_1 (shapeCast S24576x32 (m ((c : Thread nD τ).loc main_arg1)) shapeCasts_S2x12288x32_S24576x32)) shapeCasts_S24576x32x128_S24576x4096) bitsLt_bf16_f32) := by
  refine Eq.trans (b := V m c main_v4) ?_ ?_
  · blk_ext! [iblk, idx t0_0]
  · show StableHlo.after hostOps0 (fun b => m (c, b)) (Proc.devRef .tc main_v4) = _
    after_results
    try rfl

/-- Operand 2. -/
theorem opnd2 (c : Dev nD) : @Eq (FVec Ideal S24576x4096 .fp8e5m2) (iblk m c 2 t0_0) (shapeCast S24576x4096 (m ((c : Thread nD τ).loc main_arg2)) shapeCasts_S2x12288x4096_S24576x4096) := by
  refine Eq.trans (b := V m c main_v5) ?_ ?_
  · blk_ext! [iblk, idx t0_0]
  · show StableHlo.after hostOps0 (fun b => m (c, b)) (Proc.devRef .tc main_v5) = _
    after_results
    try rfl

/-- Operand 3. -/
theorem opnd3 (c : Dev nD) : @Eq (FVec Ideal S24576x4096 .bf16) (iblk m c 3 t0_0) (truncf .bf16 (shapeCast S24576x4096 (broadcastInDim S24576x32x128 ![0, 1] bcast_S24576x32_S24576x32x128_0_1 (shapeCast S24576x32 (m ((c : Thread nD τ).loc main_arg3)) shapeCasts_S2x12288x32_S24576x32)) shapeCasts_S24576x32x128_S24576x4096) bitsLt_bf16_f32) := by
  refine Eq.trans (b := V m c main_v9) ?_ ?_
  · blk_ext! [iblk, idx t0_0]
  · show StableHlo.after hostOps0 (fun b => m (c, b)) (Proc.devRef .tc main_v9) = _
    after_results
    try rfl

/-- Operand 4. -/
theorem opnd4 (c : Dev nD) : @Eq (FVec Ideal S4096x11008 .fp8e4m3) (iblk m c 4 t0_0) (shapeCast S4096x11008 (extractStridedSlice S4096x1x11008 ![0, 0, 0] (m ((c : Thread nD τ).loc main_arg4)) slices_S4096x2x11008_S4096x1x11008_0_0_0) shapeCasts_S4096x1x11008_S4096x11008) := by
  refine Eq.trans (b := V m c main_v11) ?_ ?_
  · blk_ext! [iblk, idx t0_0]
  · show StableHlo.after hostOps0 (fun b => m (c, b)) (Proc.devRef .tc main_v11) = _
    after_results
    try rfl

/-- Operand 5. -/
theorem opnd5 (c : Dev nD) : @Eq (FVec Ideal S4096x11008 .bf16) (iblk m c 5 t0_0) (truncf .bf16 (shapeCast S4096x11008 (broadcastInDim S4096x86x128 ![0, 1] bcast_S4096x86_S4096x86x128_0_1 (shapeCast S4096x86 (broadcastInDim S32x128x86 ![0, 2] bcast_S32x86_S32x128x86_0_2 (shapeCast S32x86 (extractStridedSlice S32x1x86 ![0, 0, 0] (m ((c : Thread nD τ).loc main_arg5)) slices_S32x2x86_S32x1x86_0_0_0) shapeCasts_S32x1x86_S32x86)) shapeCasts_S32x128x86_S4096x86)) shapeCasts_S4096x86x128_S4096x11008) bitsLt_bf16_f32) := by
  refine Eq.trans (b := V m c main_v18) ?_ ?_
  · blk_ext! [iblk, idx t0_0]
  · show StableHlo.after hostOps0 (fun b => m (c, b)) (Proc.devRef .tc main_v18) = _
    after_results
    try rfl

/-- Operand 6. -/
theorem opnd6 (c : Dev nD) : @Eq (FVec Ideal S4096x11008 .fp8e4m3) (iblk m c 6 t0_0) (shapeCast S4096x11008 (extractStridedSlice S4096x1x11008 ![0, 1, 0] (m ((c : Thread nD τ).loc main_arg4)) slices_S4096x2x11008_S4096x1x11008_0_1_0) shapeCasts_S4096x1x11008_S4096x11008) := by
  refine Eq.trans (b := V m c main_v20) ?_ ?_
  · blk_ext! [iblk, idx t0_0]
  · show StableHlo.after hostOps0 (fun b => m (c, b)) (Proc.devRef .tc main_v20) = _
    after_results
    try rfl

/-- Operand 7. -/
theorem opnd7 (c : Dev nD) : @Eq (FVec Ideal S4096x11008 .bf16) (iblk m c 7 t0_0) (truncf .bf16 (shapeCast S4096x11008 (broadcastInDim S4096x86x128 ![0, 1] bcast_S4096x86_S4096x86x128_0_1 (shapeCast S4096x86 (broadcastInDim S32x128x86 ![0, 2] bcast_S32x86_S32x128x86_0_2 (shapeCast S32x86 (extractStridedSlice S32x1x86 ![0, 1, 0] (m ((c : Thread nD τ).loc main_arg5)) slices_S32x2x86_S32x1x86_0_1_0) shapeCasts_S32x1x86_S32x86)) shapeCasts_S32x128x86_S4096x86)) shapeCasts_S4096x86x128_S4096x11008) bitsLt_bf16_f32) := by
  refine Eq.trans (b := V m c main_v27) ?_ ?_
  · blk_ext! [iblk, idx t0_0]
  · show StableHlo.after hostOps0 (fun b => m (c, b)) (Proc.devRef .tc main_v27) = _
    after_results
    try rfl

/-- Operand 8. -/
theorem opnd8 (c : Dev nD) : @Eq (FVec Ideal S11008x4096 .fp8e4m3) (iblk m c 8 t0_0) (m ((c : Thread nD τ).loc main_arg6)) := by
  refine Eq.trans (b := V m c main_arg6) ?_ ?_
  · blk_ext! [iblk, idx t0_0]
  · exact V_main_arg6 m c

/-- Operand 9. -/
theorem opnd9 (c : Dev nD) : @Eq (FVec Ideal S11008x4096 .bf16) (iblk m c 9 t0_0) (truncf .bf16 (shapeCast S11008x4096 (broadcastInDim S11008x32x128 ![0, 1] bcast_S11008x32_S11008x32x128_0_1 (shapeCast S11008x32 (broadcastInDim S86x128x32 ![0, 2] bcast_S86x32_S86x128x32_0_2 (m ((c : Thread nD τ).loc main_arg7))) shapeCasts_S86x128x32_S11008x32)) shapeCasts_S11008x32x128_S11008x4096) bitsLt_bf16_f32) := by
  refine Eq.trans (b := V m c main_v32) ?_ ?_
  · blk_ext! [iblk, idx t0_0]
  · show StableHlo.after hostOps0 (fun b => m (c, b)) (Proc.devRef .tc main_v32) = _
    after_results
    try rfl

end Cert.ReferenceIdeal.Value

end
-- ==== Proof.RefFinal.lean ====
/- The reference's two result arrays as functions of its arguments. -/
module

public import proofs.«01_k».proof.Proof.RefHost

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen Cert.Mlp

variable (m : (ℓ : Loc nD τ sig) → Buf (Elt Ideal) ℓ)

/-- The dequantised input of device `c`. -/
def argX (c : Dev nD) : Fin 24576 → Fin 4096 → EReal :=
  deqTok (φ := .fp8e4m3) (m ((c : Thread nD τ).loc main_arg0)) (m ((c : Thread nD τ).loc main_arg1))

/-- The dequantised output gradient of device `c`. -/
def argY (c : Dev nD) : Fin 24576 → Fin 4096 → EReal :=
  deqTok (φ := .fp8e5m2) (m ((c : Thread nD τ).loc main_arg2)) (m ((c : Thread nD τ).loc main_arg3))

/-- The dequantised gate (`p = 0`) or up (`p = 1`) weights of device `c`. -/
def argGu (p : Fin 2) (c : Dev nD) : Fin 4096 → Fin 11008 → EReal :=
  deqGu p (m ((c : Thread nD τ).loc main_arg4)) (m ((c : Thread nD τ).loc main_arg5))

/-- The dequantised down-projection weights of device `c`. -/
def argD (c : Dev nD) : Fin 11008 → Fin 4096 → EReal :=
  deqDown (m ((c : Thread nD τ).loc main_arg6)) (m ((c : Thread nD τ).loc main_arg7))

/-- The body's first two operands are the dequantised input. -/
theorem scaledX (c : Dev nD) : scaled (φ := .fp8e4m3) (n0 := 24576) (n1 := 4096) (iblk m c 0 t0_0) (iblk m c 1 t0_0) = argX m c :=
  (congr (congrArg scaled (opnd0 m c)) (opnd1 m c)).trans (tokX _ _)

/-- The next two are the dequantised output gradient. -/
theorem scaledY (c : Dev nD) : scaled (φ := .fp8e5m2) (n0 := 24576) (n1 := 4096) (iblk m c 2 t0_0) (iblk m c 3 t0_0) = argY m c :=
  (congr (congrArg scaled (opnd2 m c)) (opnd3 m c)).trans (tokY _ _)

/-- The next two are the dequantised gate weights. -/
theorem scaledG (c : Dev nD) : scaled (φ := .fp8e4m3) (n0 := 4096) (n1 := 11008) (iblk m c 4 t0_0) (iblk m c 5 t0_0) = argGu m 0 c :=
  (congr (congrArg scaled (opnd4 m c)) (opnd5 m c)).trans (gateW _ _)

/-- The next two are the dequantised up weights. -/
theorem scaledU (c : Dev nD) : scaled (φ := .fp8e4m3) (n0 := 4096) (n1 := 11008) (iblk m c 6 t0_0) (iblk m c 7 t0_0) = argGu m 1 c :=
  (congr (congrArg scaled (opnd6 m c)) (opnd7 m c)).trans (upW _ _)

/-- The last two are the dequantised down-projection weights. -/
theorem scaledD (c : Dev nD) : scaled (φ := .fp8e4m3) (n0 := 11008) (n1 := 4096) (iblk m c 8 t0_0) (iblk m c 9 t0_0) = argD m c :=
  (congr (congrArg scaled (opnd8 m c)) (opnd9 m c)).trans (downW _ _)

/-- The first result: the gradients of the gate and up weights, as the array. -/
def refGu (c : Dev nD) : FVec Ideal S4096x2x11008 .f32 := fun y =>
  dwGu (argX m c) (argY m c) (argGu m 0 c) (argGu m 1 c) (argD m c) (y 0) (y 1) (y 2)

/-- The second result: the gradient of the down-projection weights, as the array. -/
def refDown (c : Dev nD) : FVec Ideal S11008x4096 .f32 := fun y =>
  dwDown (argX m c) (argY m c) (argGu m 0 c) (argGu m 1 c) (y 0) (y 1)

/-- After the run the reference's first result array is `refGu`. -/
theorem final10 (c : Dev nD) : (dats m 0 c).arrAt 10 cfg0.N = refGu m c := by
  refine (dats m 0 c).arrAt_eq_of_after_last 10 t0_0 (by decide +kernel) _ fun j => ?_
  blk_simp
  rw [after0_10]
  refine (out10_at _ _ _ _ _ _ _ _ _ _ j).trans ?_
  rw [scaledX, scaledY, scaledG, scaledU, scaledD]
  refine Eq.trans (b := refGu m c j) rfl ?_
  generalize refGu m c = B
  blk_ext []

/-- After the run its second result array is `refDown`. -/
theorem final11 (c : Dev nD) : (dats m 0 c).arrAt 11 cfg0.N = refDown m c := by
  refine (dats m 0 c).arrAt_eq_of_after_last 11 t0_0 (by decide +kernel) _ fun j => ?_
  blk_simp
  rw [after0_11]
  refine (out11_at _ _ _ _ _ _ _ _ _ _ j).trans ?_
  rw [scaledX, scaledY, scaledG, scaledU]
  refine Eq.trans (b := refDown m c j) rfl ?_
  generalize refDown m c = B
  blk_ext []

end Cert.ReferenceIdeal.Value

end
-- ==== Proof.DxQuant.lean ====
/- The power-of-two quantiser of `dx` over the extended reals: the exponent that the kernel searches for is the
   rounded-down binary logarithm that the reference takes. -/
module

public import Idealize.ShloMosaic.Lib.Pipeline.ValueKit

@[expose] public section

noncomputable section

open Idealize.ShloMosaic

namespace Cert.DxQuant

/-- The float whose exponent field is `E` and whose other bits are 0, for `1 ≤ E ≤ 254`, is the power of two `2 ^ (E - 127)`. -/
theorem ofBits_field (E : ℕ) (h1 : 1 ≤ E) (h2 : E ≤ 254) :
    Ideal.ofBits .f32 (BitVec.ofNat 32 E <<< 23) = (((2 : ℝ) ^ ((E : ℤ) - 127) : ℝ) : EReal) := by
  have hex : ((BitVec.ofNat 32 E <<< 23).extractLsb' 23 8).toNat = E := by
    simp only [BitVec.extractLsb'_toNat, BitVec.toNat_shiftLeft, BitVec.toNat_ofNat, Nat.shiftLeft_eq, Nat.shiftRight_eq_div_pow]
    omega
  have hfr : ((BitVec.ofNat 32 E <<< 23).extractLsb' 0 23).toNat = 0 := by
    simp only [BitVec.extractLsb'_toNat, BitVec.toNat_shiftLeft, BitVec.toNat_ofNat, Nat.shiftLeft_eq, Nat.shiftRight_eq_div_pow]
    omega
  have hs : ((BitVec.ofNat 32 E <<< 23).extractLsb' 31 1).toNat = 0 := by
    simp only [BitVec.extractLsb'_toNat, BitVec.toNat_shiftLeft, BitVec.toNat_ofNat, Nat.shiftLeft_eq, Nat.shiftRight_eq_div_pow]
    omega
  have hs' : ((BitVec.ofNat 32 E <<< 23).extractLsb' 31 1 == 1#1) = false := by
    rw [beq_eq_false_iff_ne]
    intro h
    rw [h] at hs
    exact absurd hs (by decide)
  show Ideal.ieee 8 23 (BitVec.ofNat 32 E <<< 23) = _
  unfold Ideal.ieee
  simp only [hex, hfr, show 8 + 23 = 31 from rfl, hs']
  rw [if_neg (by omega), if_neg (by omega)]
  refine congrArg Real.toEReal ?_
  have h23 : (((2 ^ 23 + 0 : ℕ)) : ℝ) = (2 : ℝ) ^ (23 : ℤ) := by norm_num
  have hz : ((E : ℕ) : ℤ) - (2 ^ (8 - 1) - 1) - ((23 : ℕ) : ℤ) = ((E : ℤ) - 127) - 23 := by norm_num
  simp only [Bool.false_eq_true, if_false, one_mul]
  rw [h23, hz, ← zpow_add₀ (by norm_num : (2 : ℝ) ≠ 0)]
  refine congrArg (fun k : ℤ => (2 : ℝ) ^ k) ?_
  ring

/-- One step of the search: take the larger exponent field when its power of two is at most `m`. -/
def step (m : EReal) (e s : BitVec 32) : BitVec 32 :=
  if Ideal.cmp .oge m (Ideal.ofBits .f32 (IntOp.shli .vector (e + s) 23#32)) = 1#1 then e + s else e

/-- The exponent field that the kernel's search finds for `m`. -/
def field (m : EReal) : BitVec 32 :=
  step m (step m (step m (step m (step m (step m (step m (step m 0#32 126#32) 63#32) 32#32) 16#32) 8#32) 4#32) 2#32) 1#32

/-- One step of the search on natural numbers, for a test `T` of a candidate. -/
def gstep (T : ℕ → Bool) (e s : ℕ) : ℕ := if T (e + s) then e + s else e

/-- The search on natural numbers. -/
def greedy (T : ℕ → Bool) : ℕ :=
  gstep T (gstep T (gstep T (gstep T (gstep T (gstep T (gstep T (gstep T 0 126) 63) 32) 16) 8) 4) 2) 1

/-- A step adds at most its size. -/
theorem gstep_le (T : ℕ → Bool) (e s : ℕ) : gstep T e s ≤ e + s := by unfold gstep; split <;> omega

/-- A search among the numbers up to 252 for the last that is at most `N` finds `N`. -/
theorem greedy_le : ∀ N : Fin 253, greedy (fun c => decide (c ≤ N.val)) = N.val := by decide +kernel

/-- The test of the search, as a truth value: is the power of two of the field `c` at most `m`? -/
def test (m : EReal) (c : ℕ) : Bool := decide ((((2 : ℝ) ^ ((c : ℤ) - 127) : ℝ) : EReal) ≤ m)

/-- A step of the search on words is the step on natural numbers. -/
theorem step_eq (m : EReal) (e s : ℕ) (h1 : 1 ≤ s) (h2 : e + s ≤ 254) :
    step m (BitVec.ofNat 32 e) (BitVec.ofNat 32 s) = BitVec.ofNat 32 (gstep (test m) e s) := by
  unfold step gstep
  have hadd : BitVec.ofNat 32 e + BitVec.ofNat 32 s = BitVec.ofNat 32 (e + s) := (BitVec.ofNat_add e s).symm
  have hsh : IntOp.shli .vector (BitVec.ofNat 32 (e + s)) 23#32 = BitVec.ofNat 32 (e + s) <<< 23 := by
    unfold IntOp.shli; rw [if_pos (by decide)]; rfl
  rw [hadd, hsh, ofBits_field (e + s) (by omega) h2]
  unfold test Ideal.cmp
  generalize (((2 : ℝ) ^ (((e + s : ℕ) : ℤ) - 127) : ℝ) : EReal) = z
  by_cases h : z ≤ m
  · simp [h]
  · simp [h]

/-- The search on words is the search on natural numbers. -/
theorem field_eq (m : EReal) : field m = BitVec.ofNat 32 (greedy (test m)) := by
  have hle := gstep_le (test m)
  unfold field greedy
  rw [show (0#32 : BitVec 32) = BitVec.ofNat 32 0 from rfl]
  rw [step_eq m 0 126 (by omega) (by omega)]
  have k1 := hle 0 126
  generalize gstep (test m) 0 126 = x1 at *
  rw [step_eq m x1 63 (by omega) (by omega)]
  have k2 := hle x1 63
  generalize gstep (test m) x1 63 = x2 at *
  rw [step_eq m x2 32 (by omega) (by omega)]
  have k3 := hle x2 32
  generalize gstep (test m) x2 32 = x3 at *
  rw [step_eq m x3 16 (by omega) (by omega)]
  have k4 := hle x3 16
  generalize gstep (test m) x3 16 = x4 at *
  rw [step_eq m x4 8 (by omega) (by omega)]
  have k5 := hle x4 8
  generalize gstep (test m) x4 8 = x5 at *
  rw [step_eq m x5 4 (by omega) (by omega)]
  have k6 := hle x5 4
  generalize gstep (test m) x5 4 = x6 at *
  rw [step_eq m x6 2 (by omega) (by omega)]
  have k7 := hle x6 2
  generalize gstep (test m) x6 2 = x7 at *
  rw [step_eq m x7 1 (by omega) (by omega)]

/-- A step depends on its test at one place only. -/
theorem gstep_congr (T T' : ℕ → Bool) (e s : ℕ) (h : T (e + s) = T' (e + s)) : gstep T e s = gstep T' e s := by
  unfold gstep; rw [h]

/-- The search depends only on the test of the numbers from 1 to 252. -/
theorem greedy_congr (T T' : ℕ → Bool) (h : ∀ c, 1 ≤ c → c ≤ 252 → T c = T' c) : greedy T = greedy T' := by
  have hle := gstep_le T'
  unfold greedy
  rw [gstep_congr T T' 0 126 (h _ (by omega) (by omega))]
  have k1 := hle 0 126
  generalize gstep T' 0 126 = x1 at *
  rw [gstep_congr T T' x1 63 (h _ (by omega) (by omega))]
  have k2 := hle x1 63
  generalize gstep T' x1 63 = x2 at *
  rw [gstep_congr T T' x2 32 (h _ (by omega) (by omega))]
  have k3 := hle x2 32
  generalize gstep T' x2 32 = x3 at *
  rw [gstep_congr T T' x3 16 (h _ (by omega) (by omega))]
  have k4 := hle x3 16
  generalize gstep T' x3 16 = x4 at *
  rw [gstep_congr T T' x4 8 (h _ (by omega) (by omega))]
  have k5 := hle x4 8
  generalize gstep T' x4 8 = x5 at *
  rw [gstep_congr T T' x5 4 (h _ (by omega) (by omega))]
  have k6 := hle x5 4
  generalize gstep T' x5 4 = x6 at *
  rw [gstep_congr T T' x6 2 (h _ (by omega) (by omega))]
  have k7 := hle x6 2
  generalize gstep T' x6 2 = x7 at *
  rw [gstep_congr T T' x7 1 (h _ (by omega) (by omega))]

/-- The exponent that the reference takes of `m`: its binary logarithm rounded down, plus 1, kept between -126 and 126. -/
def expo (m : EReal) : EReal :=
  min ((126 : ℝ) : EReal) (max ((-126 : ℝ) : EReal) (Ideal.liftRound Int.floor (Ideal.div (Ideal.log m) (Ideal.log ((2 : ℝ) : EReal))) + 1))

/-- Of a positive `m` the search finds the reference's exponent plus 126. -/
theorem greedy_expo (m : EReal) (hm : 0 < m) : ∃ N : ℕ, N ≤ 252 ∧ greedy (test m) = N ∧ expo m = (((N : ℤ) - 126 : ℤ) : ℝ) := by
  have hlog2 : 0 < Real.log 2 := Real.log_pos (by norm_num)
  have h2 : Ideal.log ((2 : ℝ) : EReal) = ((Real.log 2 : ℝ) : EReal) := by
    rw [Ideal.log_coe, if_neg (by norm_num)]
  have hne : ((Real.log 2 : ℝ) : EReal) ≠ 0 := by
    exact_mod_cast hlog2.ne'
  induction m with
  | bot => exact absurd hm (by simp)
  | top =>
    refine ⟨252, le_rfl, ?_, ?_⟩
    · rw [greedy_congr (test ⊤) (fun c => decide (c ≤ (⟨252, by omega⟩ : Fin 253).val)) (fun c _ hc => by simp [test, hc])]
      exact greedy_le ⟨252, by omega⟩
    · unfold expo
      rw [h2, Ideal.log_top]
      unfold Ideal.div
      rw [if_neg hne, ← EReal.coe_inv, EReal.top_mul_coe_of_pos (inv_pos.2 hlog2), Ideal.liftRound_top]
      have : (⊤ : EReal) + 1 = ⊤ := by exact EReal.top_add_coe 1
      rw [this, max_eq_right le_top, min_eq_left le_top]
      norm_num
  | coe r =>
    have hr : 0 < r := by exact_mod_cast hm
    set q : ℤ := ⌊Real.log r / Real.log 2⌋ with hq
    have hT : ∀ c : ℕ, test (r : EReal) c = decide ((c : ℤ) ≤ q + 127) := by
      intro c
      unfold test
      congr 1
      rw [EReal.coe_le_coe_iff, eq_iff_iff, ← Real.log_le_log_iff (by positivity) hr, Real.log_zpow, ← le_div_iff₀ hlog2]
      rw [show (c : ℤ) ≤ q + 127 ↔ (c : ℤ) - 127 ≤ q by omega, hq, Int.le_floor]
    have hN : min (252 : ℤ) (max 0 (q + 127)) = ((min (252 : ℤ) (max 0 (q + 127))).toNat : ℤ) := by
      rw [Int.toNat_of_nonneg]; omega
    set N : ℕ := (min (252 : ℤ) (max 0 (q + 127))).toNat with hNd
    have hN252 : N ≤ 252 := by omega
    refine ⟨N, hN252, ?_, ?_⟩
    · rw [greedy_congr (test (r : EReal)) (fun c => decide (c ≤ (⟨N, by omega⟩ : Fin 253).val)) (fun c hc1 hc2 => by
        rw [hT c]
        congr 1
        rw [eq_iff_iff]
        show (c : ℤ) ≤ q + 127 ↔ c ≤ N
        omega)]
      exact greedy_le ⟨N, by omega⟩
    · unfold expo
      rw [h2, Ideal.log_coe, if_neg (by linarith)]
      unfold Ideal.div
      rw [if_neg hne, ← EReal.coe_inv, ← EReal.coe_mul, ← div_eq_mul_inv, Ideal.liftRound_coe]
      show min ((126 : ℝ) : EReal) (max ((-126 : ℝ) : EReal) (((q : ℝ) : EReal) + ((1 : ℝ) : EReal))) = _
      rw [← EReal.coe_add]
      have e1 : (N : ℤ) - 126 = min 126 (max (-126) (q + 1)) := by omega
      rw [e1, Int.cast_min, Int.cast_max, EReal.coe_strictMono.monotone.map_min, EReal.coe_strictMono.monotone.map_max]
      norm_num

/-- The exponent that the kernel works with, as a word: 0 where the block is 0, else the field found minus 126. -/
def kexp (a m : EReal) : BitVec 32 :=
  if Ideal.cmp .oeq a 0 = 1#1 then 0#32 else field m - 126#32

/-- The exponent that the reference works with: 0 where the block is 0. -/
def rexp (a m : EReal) : EReal := if Ideal.cmp .oeq a 0 = 1#1 then 0 else expo m

/-- The kernel's scale is two to the reference's exponent. -/
theorem scale_eq (a m : EReal) (hm : a ≠ 0 → 0 < m) :
    Ideal.ofBits .f32 (IntOp.shli .vector (kexp a m + 127#32) 23#32) = Ideal.exp2 (rexp a m) := by
  have hsh : ∀ w : BitVec 32, IntOp.shli .vector w 23#32 = w <<< 23 := fun w => by
    unfold IntOp.shli; rw [if_pos (by decide)]; rfl
  rw [hsh]
  unfold kexp rexp
  by_cases h : Ideal.cmp .oeq a 0 = 1#1
  · rw [if_pos h, if_pos h]
    show Ideal.ofBits .f32 (BitVec.ofNat 32 127 <<< 23) = Ideal.exp2 ((0 : ℝ) : EReal)
    rw [ofBits_field 127 (by omega) (by omega), Ideal.exp2_coe]
    simp
  · rw [if_neg h, if_neg h]
    have ha : a ≠ 0 := fun h0 => h (by simp [Ideal.cmp, h0])
    obtain ⟨N, hN, hg, he⟩ := greedy_expo m (hm ha)
    rw [field_eq, hg, he, Ideal.exp2_coe]
    have hw : BitVec.ofNat 32 N - 126#32 + 127#32 = BitVec.ofNat 32 (N + 1) := by
      rw [BitVec.ofNat_add, show (127#32 : BitVec 32) = 126#32 + 1#32 from rfl, ← BitVec.add_assoc, BitVec.sub_add_cancel]
    rw [hw, ofBits_field (N + 1) (by omega) (by omega)]
    congr 1
    show _ = (2 : ℝ) ^ ((((N : ℤ) - 126 : ℤ) : ℝ))
    rw [Real.rpow_intCast]
    congr 1
    push_cast; ring

/-- The kernel's factor of the codes is two to minus the reference's exponent. -/
theorem inv_eq (a m : EReal) (hm : a ≠ 0 → 0 < m) :
    Ideal.ofBits .f32 (IntOp.shli .vector (127#32 - kexp a m) 23#32) = Ideal.exp2 (0 - rexp a m) := by
  have hsh : ∀ w : BitVec 32, IntOp.shli .vector w 23#32 = w <<< 23 := fun w => by
    unfold IntOp.shli; rw [if_pos (by decide)]; rfl
  rw [hsh]
  unfold kexp rexp
  by_cases h : Ideal.cmp .oeq a 0 = 1#1
  · rw [if_pos h, if_pos h, zero_sub, neg_zero]
    show Ideal.ofBits .f32 (BitVec.ofNat 32 127 <<< 23) = Ideal.exp2 ((0 : ℝ) : EReal)
    rw [ofBits_field 127 (by omega) (by omega), Ideal.exp2_coe]
    simp
  · rw [if_neg h, if_neg h]
    have ha : a ≠ 0 := fun h0 => h (by simp [Ideal.cmp, h0])
    obtain ⟨N, hN, hg, he⟩ := greedy_expo m (hm ha)
    rw [field_eq, hg, he, zero_sub, ← EReal.coe_neg, Ideal.exp2_coe]
    have hw : 127#32 - (BitVec.ofNat 32 N - 126#32) = BitVec.ofNat 32 (253 - N) := by
      apply BitVec.eq_of_toNat_eq
      simp only [BitVec.toNat_sub, BitVec.toNat_ofNat]
      omega
    rw [hw, ofBits_field (253 - N) (by omega) (by omega)]
    congr 1
    show _ = (2 : ℝ) ^ (-(((N : ℤ) - 126 : ℤ) : ℝ))
    rw [← Int.cast_neg, Real.rpow_intCast]
    congr 1
    push_cast [Nat.cast_sub (show N ≤ 253 by omega)]; ring

/-- The largest absolute value of a list of numbers, as both programs take it. -/
def amax {ι : Type} [Fintype ι] (v : ι → EReal) : EReal :=
  Finset.univ.fold max (Ideal.ofBits .f32 0xFF800000#32) fun k => max (v k) (-(v k))

/-- The largest absolute value is not negative. -/
theorem amax_nonneg (f : Fin 128 → EReal) : 0 ≤ amax f := by
  unfold amax
  rw [Finset.le_fold_max]
  refine Or.inr ⟨0, Finset.mem_univ _, ?_⟩
  rcases le_total 0 (f 0) with h | h
  · exact le_max_of_le_left h
  · exact le_max_of_le_right (by simpa using EReal.neg_le_neg_iff.2 h)

/-- One over the largest finite number of the code's type, as the programs write it. -/
def rcp : EReal := Ideal.ofBits .f32 0x37924925#32

/-- That number is positive. -/
theorem rcp_pos : 0 < rcp := by
  have hex : ((0x37924925#32 : BitVec 32).extractLsb' 23 8).toNat = 111 := by decide
  have hfr : ((0x37924925#32 : BitVec 32).extractLsb' 0 23).toNat = 1198373 := by decide
  have hs : ((0x37924925#32 : BitVec 32).extractLsb' 31 1 == 1#1) = false := by decide
  show 0 < Ideal.ieee 8 23 (0x37924925#32 : BitVec 32)
  unfold Ideal.ieee
  simp only [hex, hfr, show 8 + 23 = 31 from rfl, hs]
  rw [if_neg (by omega), if_neg (by omega)]
  simp only [Bool.false_eq_true, if_false, one_mul]
  exact EReal.coe_pos.2 (by positivity)

/-- A block with a number other than 0 has a positive largest absolute value, over the code's largest number too. -/
theorem amax_pos (f : Fin 128 → EReal) (h : amax f ≠ 0) : 0 < amax f * rcp :=
  EReal.mul_pos (lt_of_le_of_ne (amax_nonneg f) (Ne.symm h)) rcp_pos

/-- The scale of a run of 128 numbers: a power of two. -/
def scl (f : Fin 128 → EReal) : EReal := Ideal.exp2 (rexp (amax f) (amax f * rcp))

/-- The code of the number `z` of the run `f`: `z` over the run's scale, kept within the range of the code's type. -/
def cod (f : Fin 128 → EReal) (z : EReal) : EReal :=
  min (Ideal.ofBits .f32 0x47600000#32) (max (Ideal.ofBits .f32 0xC7600000#32) (z * Ideal.exp2 (0 - rexp (amax f) (amax f * rcp))))

end Cert.DxQuant

end
-- ==== Proof.DxBlock.lean ====
/- The last grid point of a run of `dx`: the codes and scales it takes of the accumulated block. -/
module

public import proofs.«01_k».proof.Proof.Gen.DxIdeal.Frame
public import proofs.«01_k».proof.Proof.DxQuant
public import Idealize.ShloMosaic.Lib.Pipeline.ValueKit

@[expose] public section

set_option maxRecDepth 16384
set_option pp.maxSteps 2000

noncomputable section

open Idealize.ShloMosaic Idealize.ShloMosaic.TcCoe Idealize.SL.Sem
open Idealize.ShloMosaic.Pipeline (Dat)

namespace Cert.DxIdeal.Value

open Cert.DxIdeal Cert.DxIdeal.Gen Cert.DxQuant

/-- The codes of a block. -/
def codeBlk (v : Vec Ideal S256x128 .f32) : FVec Ideal S256x128 .fp8e5m2 :=
  k0_pay9 v (k0_pay4 v) (k0_pay5 v) (k0_pay6 v)

/-- The scales of a block, one per row. -/
def scaleBlk (v : Vec Ideal S256x128 .f32) : FVec Ideal S256x1 .f32 :=
  k0_pay8 (k0_pay4 v) (k0_pay5 v) (k0_pay6 v)

/-- The column of the row maxima holds the largest absolute value of each row. -/
theorem pay3_at (v : Vec Ideal S256x128 .f32) (x : S256x1.Idx) :
    k0_pay3 v x = amax fun k : Fin 128 => v (ix2 (n0 := 256) (n1 := 128) (x 0) k) := by
  pointwise [k0_pay3, amax]
  rfl

/-- The number whose exponent is searched is that maximum times one over the code's largest number. -/
theorem pay4_at (v : Vec Ideal S256x128 .f32) (x : S256x1.Idx) :
    k0_pay4 v x = k0_pay3 v x * Ideal.ofBits .f32 0x37924925#32 := by
  pointwise [k0_pay4]

/-- One step of the search on a column of numbers. -/
def vstep (M : FVec Ideal S256x1 .f32) (e : IVec S256x1 32) (s : BitVec 32) : IVec S256x1 32 :=
  select (cmpf .oge M (bitcastToFloat .f32 (shli (addi e (broadcast S256x1 s)) (broadcast S256x1 23#32))))
      (addi e (broadcast S256x1 s)) e

/-- A step of the search on a column is a step on each of its numbers. -/
theorem vstep_at (M : FVec Ideal S256x1 .f32) (e : IVec S256x1 32) (s : BitVec 32) (x : S256x1.Idx) :
    vstep M e s x = step (M x) (e x) s := rfl

/-- The first five steps of the search. -/
theorem pay6_eq (v : Vec Ideal S256x128 .f32) :
    k0_pay6 v = vstep (k0_pay4 v) (vstep (k0_pay4 v) (vstep (k0_pay4 v) (vstep (k0_pay4 v) (vstep (k0_pay4 v)
      (broadcast S256x1 0#32) 126#32) 63#32) 32#32) 16#32) 8#32 := rfl

/-- The last three steps of the search, and 0 in place of its result where the row is 0. -/
theorem pay7_eq (M : FVec Ideal S256x1 .f32) (z : IVec S256x1 1) (e : IVec S256x1 32) :
    k0_pay7 M z e = select z (broadcast S256x1 0#32) (subi (vstep M (vstep M (vstep M e 4#32) 2#32) 1#32) (broadcast S256x1 126#32)) := rfl

/-- The mask marks the rows whose maximum is 0. -/
theorem pay5_at (v : Vec Ideal S256x128 .f32) (x : S256x1.Idx) : k0_pay5 v x = Ideal.cmp .oeq (k0_pay3 v x) 0 := by
  unfold k0_pay5
  generalize k0_pay3 v = A
  pointwise []

/-- The choice between 0 and the exponent, at one row. -/
theorem sel_at (z : IVec S256x1 1) (e : IVec S256x1 32) (x : S256x1.Idx) :
    select z (broadcast S256x1 0#32) (subi e (broadcast S256x1 126#32)) x = if z x = 1#1 then 0#32 else e x - 126#32 := rfl

/-- The exponent of a row, as the kernel finds it. -/
theorem pay7_at (v : Vec Ideal S256x128 .f32) (x : S256x1.Idx) :
    k0_pay7 (k0_pay4 v) (k0_pay5 v) (k0_pay6 v) x = kexp (k0_pay3 v x) (k0_pay4 v x) := by
  rw [pay7_eq, pay6_eq, sel_at, pay5_at]
  simp only [vstep_at]
  generalize k0_pay3 v x = a
  generalize k0_pay4 v x = b
  rfl

/-- The row `r` of a block of 256 rows. -/
abbrev blkRow (v : Vec Ideal S256x128 .f32) (r : Fin 256) : Fin 128 → EReal := fun k => v (ix2 (n0 := 256) (n1 := 128) r k)

/-- The number whose exponent is searched, in terms of the row. -/
theorem pay4_eq (v : Vec Ideal S256x128 .f32) (x : S256x1.Idx) : k0_pay4 v x = amax (blkRow v (x 0)) * rcp := by
  rw [pay4_at, pay3_at]; rfl

/-- The scales of a block are the scales of its rows. -/
theorem scaleBlk_at (v : Vec Ideal S256x128 .f32) (x : S256x1.Idx) : scaleBlk v x = scl (blkRow v (x 0)) := by
  have h : scaleBlk v x = Ideal.ofBits .f32 (IntOp.shli .vector (k0_pay7 (k0_pay4 v) (k0_pay5 v) (k0_pay6 v) x + 127#32) 23#32) := rfl
  rw [h, pay7_at, pay3_at, pay4_eq]
  exact scale_eq _ _ (amax_pos _)

/-- The codes of a block are the codes of its rows. -/
theorem codeBlk_at (v : Vec Ideal S256x128 .f32) (x : S256x128.Idx) : codeBlk v x = cod (blkRow v (x 0)) (v x) := by
  have h : codeBlk v x = min (Ideal.ofBits .f32 0x47600000#32) (max (Ideal.ofBits .f32 0xC7600000#32) (v x *
      Ideal.ofBits .f32 (IntOp.shli .vector (127#32 - k0_pay7 (k0_pay4 v) (k0_pay5 v) (k0_pay6 v) (ix2 (n0 := 256) (n1 := 1) (x 0) 0)) 23#32))) := by
    unfold codeBlk k0_pay9
    generalize k0_pay7 (k0_pay4 v) (k0_pay5 v) (k0_pay6 v) = e
    pointwise []
    rfl
  rw [h, pay7_at, pay3_at, pay4_eq, inv_eq _ _ (amax_pos _)]
  rfl

end Cert.DxIdeal.Value

end
-- ==== Proof.DxTiles.lean ====
/- The pieces which the last grid point of a run of `dx` stores. -/
module

public import proofs.«01_k».proof.Proof.DxBlock

@[expose] public section

set_option maxRecDepth 16384
set_option pp.maxSteps 2000

noncomputable section

open Idealize.ShloMosaic Idealize.ShloMosaic.TcCoe Idealize.SL.Sem
open Idealize.ShloMosaic.Pipeline (Dat)

namespace Cert.DxIdeal.Value

open Cert.DxIdeal Cert.DxIdeal.Gen Cert.DxQuant

/-- A stored piece of codes: the codes of the block of the accumulated contents in the same place. -/
def CodeTile {sg : RefSig} {κ : Kind} {sp : Space} (W : View sg κ sp S1024x4096 .f32) (L : List (View.Piece (Elt Ideal) S1024x4096 .f32)) (p : View.Piece (Elt Ideal) S1024x4096 .fp8e5m2) : Prop :=
  ∃ (a b : ℕ) (inb : _) (_ : b % 128 = 0), p = ⟨Rect.unit ![a, b] S256x128.size inb, codeBlk (W.readCov L (Rect.unit (s := S1024x4096) ![a, b] S256x128.size inb).toLoadRect)⟩

/-- A stored piece of scales: the scales of the block of the accumulated contents that starts 128 times as far along. -/
def ScaleTile {sg : RefSig} {κ : Kind} {sp : Space} (W : View sg κ sp S1024x4096 .f32) (L : List (View.Piece (Elt Ideal) S1024x4096 .f32)) (p : View.Piece (Elt Ideal) S1024x32 .f32) : Prop :=
  ∃ (a b : ℕ) (inb : _) (inb' : _), p = ⟨Rect.unit ![a, b] S256x1.size inb, scaleBlk (W.readCov L (Rect.unit (s := S1024x4096) ![a, 128 * b] S256x128.size inb').toLoadRect)⟩

set_option maxHeartbeats 4000000 in
/-- Every piece of codes the last point stores is of that form. -/
theorem codeTiles (c : Dev nD) (i : grid0.Coords) (arg2 : Memref sig .tc .vmem S1024x512 .bf16) (harg2 : arg2.IsWhole) (arg3 : Memref sig .tc .vmem S4096x512 .bf16) (harg3 : arg3.IsWhole) (arg4 : Memref sig .tc .vmem S1024x4096 .fp8e5m2) (harg4 : arg4.IsWhole) (arg5 : Memref sig .tc .vmem S1024x32 .f32) (harg5 : arg5.IsWhole) (arg6 : Memref sig .tc .vmem S1024x4096 .f32) (harg6 : arg6.IsWhole) (hc0 : ¬cond0_0 i) (hc1 : cond0_1 i)
    (x0 : Vec Ideal S1024x512 .bf16) (x1 : Vec Ideal S4096x512 .bf16) (xs0 : Vec Ideal S1024x4096 .f32) :
    ∀ p ∈ (kernelRun0_C c i arg2 harg2 arg3 harg3 arg4 harg4 arg5 harg5 arg6 harg6 hc0 hc1 x0 x1 xs0).1, CodeTile arg6.view (kernelRun0_C c i arg2 harg2 arg3 harg3 arg4 harg4 arg5 harg5 arg6 harg6 hc0 hc1 x0 x1 xs0).2.2.1 p := by
  unfold kernelRun0_C
  dsimp only
  iterate 128 refine List.forall_mem_cons.2 ⟨⟨_, _, _, (by decide), rfl⟩, ?_⟩
  exact fun p hp => absurd hp List.not_mem_nil

set_option maxHeartbeats 4000000 in
/-- Every piece of scales the last point stores is of that form. -/
theorem scaleTiles (c : Dev nD) (i : grid0.Coords) (arg2 : Memref sig .tc .vmem S1024x512 .bf16) (harg2 : arg2.IsWhole) (arg3 : Memref sig .tc .vmem S4096x512 .bf16) (harg3 : arg3.IsWhole) (arg4 : Memref sig .tc .vmem S1024x4096 .fp8e5m2) (harg4 : arg4.IsWhole) (arg5 : Memref sig .tc .vmem S1024x32 .f32) (harg5 : arg5.IsWhole) (arg6 : Memref sig .tc .vmem S1024x4096 .f32) (harg6 : arg6.IsWhole) (hc0 : ¬cond0_0 i) (hc1 : cond0_1 i)
    (x0 : Vec Ideal S1024x512 .bf16) (x1 : Vec Ideal S4096x512 .bf16) (xs0 : Vec Ideal S1024x4096 .f32) :
    ∀ p ∈ (kernelRun0_C c i arg2 harg2 arg3 harg3 arg4 harg4 arg5 harg5 arg6 harg6 hc0 hc1 x0 x1 xs0).2.1, ScaleTile arg6.view (kernelRun0_C c i arg2 harg2 arg3 harg3 arg4 harg4 arg5 harg5 arg6 harg6 hc0 hc1 x0 x1 xs0).2.2.1 p := by
  unfold kernelRun0_C
  dsimp only
  iterate 128 refine List.forall_mem_cons.2 ⟨⟨_, _, _, (by decide), rfl⟩, ?_⟩
  exact fun p hp => absurd hp List.not_mem_nil

end Cert.DxIdeal.Value

end
-- ==== Proof.DxOut.lean ====
/- The codes and scales which the last grid point of a run of `dx` leaves. -/
module

public import proofs.«01_k».proof.Proof.DxTiles

@[expose] public section

set_option maxRecDepth 16384
set_option pp.maxSteps 2000

noncomputable section

open Idealize.ShloMosaic Idealize.ShloMosaic.TcCoe Idealize.SL.Sem
open Idealize.ShloMosaic.Pipeline (Dat)

namespace Cert.DxIdeal.Value

open Cert.DxIdeal Cert.DxIdeal.Gen Cert.DxQuant

/-- A block read from the accumulated contents. -/
theorem acc_read (c : Dev nD) (i : grid0.Coords) (arg2 : Memref sig .tc .vmem S1024x512 .bf16) (harg2 : arg2.IsWhole) (arg3 : Memref sig .tc .vmem S4096x512 .bf16) (harg3 : arg3.IsWhole) (arg4 : Memref sig .tc .vmem S1024x4096 .fp8e5m2) (harg4 : arg4.IsWhole) (arg5 : Memref sig .tc .vmem S1024x32 .f32) (harg5 : arg5.IsWhole) (arg6 : Memref sig .tc .vmem S1024x4096 .f32) (harg6 : arg6.IsWhole) (hc0 : ¬cond0_0 i) (hc1 : cond0_1 i)
    (x0 : Vec Ideal S1024x512 .bf16) (x1 : Vec Ideal S4096x512 .bf16) (xs0 : Vec Ideal S1024x4096 .f32) (r : Rect S1024x4096) :
    arg6.view.readCov (kernelRun0_C c i arg2 harg2 arg3 harg3 arg4 harg4 arg5 harg5 arg6 harg6 hc0 hc1 x0 x1 xs0).2.2.1 r.toLoadRect = View.ld (sout0_C_0 c i arg2 harg2 arg3 harg3 arg4 harg4 arg5 harg5 arg6 harg6 hc0 hc1 x0 x1 xs0) r := by
  rw [View.readCov_eq_canon_ld _ _ _ (scover0_C_0 c i arg2 harg2 arg3 harg3 arg4 harg4 arg5 harg5 arg6 harg6 hc0 hc1 x0 x1 xs0)]
  unfold sout0_C_0
  rw [View.read_writes_eq_canon _ _ _ (scover0_C_0 c i arg2 harg2 arg3 harg3 arg4 harg4 arg5 harg5 arg6 harg6 hc0 hc1 x0 x1 xs0)]

/-- The run of 128 columns of row `r` that column `q` lies in. -/
abbrev runOf (M : Vec Ideal S1024x4096 .f32) (r : Fin 1024) (q : Fin 32) : Fin 128 → EReal :=
  fun k => M (ix2 (n0 := 1024) (n1 := 4096) r ⟨128 * q.val + k.val, by omega⟩)

/-- The codes the last point leaves. -/
theorem outC2 (c : Dev nD) (i : grid0.Coords) (arg2 : Memref sig .tc .vmem S1024x512 .bf16) (harg2 : arg2.IsWhole) (arg3 : Memref sig .tc .vmem S4096x512 .bf16) (harg3 : arg3.IsWhole) (arg4 : Memref sig .tc .vmem S1024x4096 .fp8e5m2) (harg4 : arg4.IsWhole) (arg5 : Memref sig .tc .vmem S1024x32 .f32) (harg5 : arg5.IsWhole) (arg6 : Memref sig .tc .vmem S1024x4096 .f32) (harg6 : arg6.IsWhole) (hc0 : ¬cond0_0 i) (hc1 : cond0_1 i)
    (x0 : Vec Ideal S1024x512 .bf16) (x1 : Vec Ideal S4096x512 .bf16) (xs0 : Vec Ideal S1024x4096 .f32) (y : S1024x4096.Idx) :
    out0_C_2 c i arg2 harg2 arg3 harg3 arg4 harg4 arg5 harg5 arg6 harg6 hc0 hc1 x0 x1 xs0 y = cod (runOf (sout0_C_0 c i arg2 harg2 arg3 harg3 arg4 harg4 arg5 harg5 arg6 harg6 hc0 hc1 x0 x1 xs0) (y 0) ⟨(y 1 : ℕ) / 128, Nat.div_lt_of_lt_mul (y 1).isLt⟩) (sout0_C_0 c i arg2 harg2 arg3 harg3 arg4 harg4 arg5 harg5 arg6 harg6 hc0 hc1 x0 x1 xs0 y) := by
  unfold out0_C_2
  rw [View.read_writes_eq_canon _ _ _ (cover0_C_2 c i arg2 harg2 arg3 harg3 arg4 harg4 arg5 harg5 arg6 harg6 hc0 hc1 x0 x1 xs0)]
  refine View.canon_apply_of_pieces (fun y => cod (runOf (sout0_C_0 c i arg2 harg2 arg3 harg3 arg4 harg4 arg5 harg5 arg6 harg6 hc0 hc1 x0 x1 xs0) (y 0) ⟨(y 1 : ℕ) / 128, Nat.div_lt_of_lt_mul (y 1).isLt⟩) (sout0_C_0 c i arg2 harg2 arg3 harg3 arg4 harg4 arg5 harg5 arg6 harg6 hc0 hc1 x0 x1 xs0 y)) _ ?_ y (cover0_C_2 c i arg2 harg2 arg3 harg3 arg4 harg4 arg5 harg5 arg6 harg6 hc0 hc1 x0 x1 xs0 y)
  intro p hp
  obtain ⟨a, b, inb, hb, rfl⟩ := codeTiles c i arg2 harg2 arg3 harg3 arg4 harg4 arg5 harg5 arg6 harg6 hc0 hc1 x0 x1 xs0 p hp
  intro x
  dsimp only
  rw [acc_read]
  generalize sout0_C_0 c i arg2 harg2 arg3 harg3 arg4 harg4 arg5 harg5 arg6 harg6 hc0 hc1 x0 x1 xs0 = M
  rw [codeBlk_at]
  refine congrArg (fun f => cod f (M ((Rect.unit (s := S1024x4096) ![a, b] S256x128.size inb).emb x))) (funext fun k => congrArg M (funext fun ax => Fin.ext ?_))
  have hx : (x 1 : ℕ) < 128 := (x 1).isLt
  match ax with
  | ⟨0, _⟩ => rfl
  | ⟨1, _⟩ =>
    show b + 1 * k.val = 128 * ((b + 1 * (x 1 : ℕ)) / 128) + k.val
    omega

/-- The scales the last point leaves. -/
theorem outC3 (c : Dev nD) (i : grid0.Coords) (arg2 : Memref sig .tc .vmem S1024x512 .bf16) (harg2 : arg2.IsWhole) (arg3 : Memref sig .tc .vmem S4096x512 .bf16) (harg3 : arg3.IsWhole) (arg4 : Memref sig .tc .vmem S1024x4096 .fp8e5m2) (harg4 : arg4.IsWhole) (arg5 : Memref sig .tc .vmem S1024x32 .f32) (harg5 : arg5.IsWhole) (arg6 : Memref sig .tc .vmem S1024x4096 .f32) (harg6 : arg6.IsWhole) (hc0 : ¬cond0_0 i) (hc1 : cond0_1 i)
    (x0 : Vec Ideal S1024x512 .bf16) (x1 : Vec Ideal S4096x512 .bf16) (xs0 : Vec Ideal S1024x4096 .f32) (y : S1024x32.Idx) :
    out0_C_3 c i arg2 harg2 arg3 harg3 arg4 harg4 arg5 harg5 arg6 harg6 hc0 hc1 x0 x1 xs0 y = scl (runOf (sout0_C_0 c i arg2 harg2 arg3 harg3 arg4 harg4 arg5 harg5 arg6 harg6 hc0 hc1 x0 x1 xs0) (y 0) (y 1)) := by
  unfold out0_C_3
  rw [View.read_writes_eq_canon _ _ _ (cover0_C_3 c i arg2 harg2 arg3 harg3 arg4 harg4 arg5 harg5 arg6 harg6 hc0 hc1 x0 x1 xs0)]
  refine View.canon_apply_of_pieces (fun y => scl (runOf (sout0_C_0 c i arg2 harg2 arg3 harg3 arg4 harg4 arg5 harg5 arg6 harg6 hc0 hc1 x0 x1 xs0) (y 0) (y 1))) _ ?_ y (cover0_C_3 c i arg2 harg2 arg3 harg3 arg4 harg4 arg5 harg5 arg6 harg6 hc0 hc1 x0 x1 xs0 y)
  intro p hp
  obtain ⟨a, b, inb, inb', rfl⟩ := scaleTiles c i arg2 harg2 arg3 harg3 arg4 harg4 arg5 harg5 arg6 harg6 hc0 hc1 x0 x1 xs0 p hp
  intro x
  dsimp only
  rw [acc_read]
  generalize sout0_C_0 c i arg2 harg2 arg3 harg3 arg4 harg4 arg5 harg5 arg6 harg6 hc0 hc1 x0 x1 xs0 = M
  rw [scaleBlk_at]
  refine congrArg scl (funext fun k => congrArg M (funext fun ax => Fin.ext ?_))
  have hx : (x 1 : ℕ) < 1 := (x 1).isLt
  match ax with
  | ⟨0, _⟩ => rfl
  | ⟨1, _⟩ =>
    show 128 * b + 1 * k.val = 128 * (b + 1 * (x 1 : ℕ)) + k.val
    omega

end Cert.DxIdeal.Value

end
-- ==== Proof.DxAcc.lean ====
/- The contents of the carried accumulator of `dx` after the last grid point of a run: the whole product. -/
module

public import proofs.«01_k».proof.Proof.Gen.DxIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

/-- The gradient of the input: the gradients at gate and up times the weights, summed over the columns. -/
def dxArr (A : FVec Ideal S24576x22016 .bf16) (B : FVec Ideal S4096x22016 .bf16) : FVec Ideal S24576x4096 .f32 := fun y =>
  ∑ t : Fin 22016, A (ix2 (n0 := 24576) (n1 := 22016) (y 0) t) * B (ix2 (n0 := 4096) (n1 := 22016) (y 1) t)

/-- What one grid point adds to the accumulator. -/
def part (A : FVec Ideal S1024x512 .bf16) (B : FVec Ideal S4096x512 .bf16) : FVec Ideal S1024x4096 .f32 := fun y =>
  ∑ k : Fin 512, A (ix2 (n0 := 1024) (n1 := 512) (y 0) k) * B (ix2 (n0 := 4096) (n1 := 512) (y 1) k)

/-- Where the blocks of each grid point lie: point `t` takes the rows `t / 43` and the columns `t % 43`. -/
theorem idx0 : ∀ t : Fin cfg0.N, win0_0.index t = ![t.val / 43, t.val % 43] ∧ win0_1.index t = ![0, t.val % 43]
    ∧ win0_2.index t = ![t.val / 43, 0] ∧ win0_3.index t = ![t.val / 43, 0] :=
  (by decide +kernel : ∀ t : Fin grid0.N, _)

/-- The accumulator's contents after point `n`. -/
abbrev accAfter (c : Dev nD) (n : ℕ) (h : n < cfg0.N) : FVec Ideal S1024x4096 .f32 := (outsAt0 m c n h).2.2

/-- The first point of a run leaves its own part. -/
theorem accA (c : Dev nD) (t : Fin cfg0.N) (h0 : t.val % 43 = 0) (y : S1024x4096.Idx) :
    accAfter m c t.val t.isLt y = 0 + part (iblk m c 0 t) (iblk m c 1 t) y := by
  unfold accAfter
  rw [outsAt0_A m c t h0 (by omega)]
  frame_out
  pointwise [k0_pay2, k0_pay1, part]

/-- Every further point adds its part. -/
theorem accB (c : Dev nD) (t : Fin cfg0.N) (h0 : ¬ t.val % 43 = 0) (y : S1024x4096.Idx) :
    accAfter m c t.val t.isLt y = accAfter m c (t.val - 1) (Nat.lt_of_le_of_lt (Nat.sub_le _ _) t.isLt) y
      + part (iblk m c 0 t) (iblk m c 1 t) y := by
  unfold accAfter
  by_cases h1 : t.val % 43 = 42
  · rw [outsAt0_C m c t h0 h1]
    frame_out
    rw [read_unread_whole]
    pointwise [k0_pay2, part]
  · rw [outsAt0_B m c t h0 h1]
    frame_out
    rw [read_unread_whole]
    pointwise [k0_pay2, part]

/-- After the last point of a run the accumulator holds the run's block of the gradient. -/
theorem acc_last (c : Dev nD) (t : Fin cfg0.N) (h : t.val % 43 = 42) (y : S1024x4096.Idx) :
    accAfter m c t.val t.isLt y = dxArr (V m c main_arg0) (V m c main_arg1)
      (ix2 (n0 := 24576) (n1 := 4096) ⟨1024 * (t.val / 43) + (y 0 : ℕ), by
        have h1 : t.val < 1032 := t.isLt
        have h2 : (y 0 : ℕ) < 1024 := (y 0).isLt
        omega⟩ (y 1)) := by
  rw [Pipeline.eq_sum_fin_of_reset_step_apply_of_flush (fun n h => accAfter m c n h) 43 (fun _ => 0)
    (fun t y => part (iblk m c 0 t) (iblk m c 1 t) y) (accA m c) (accB m c) t h y, zero_add]
  unfold part dxArr
  refine Fin.sum_mul_add_congr fun s k hl => ?_
  blk_point [iblk, idx0 t, idx0 ⟨_, Pipeline.run_point_lt_of_flush t h s⟩]

end Cert.DxIdeal.Value

end
-- ==== Proof.DxFinal.lean ====
/- The codes and scales which the `dx` call leaves, as functions of its arguments. -/
module

public import proofs.«01_k».proof.Proof.DxOut
public import proofs.«01_k».proof.Proof.DxAcc

@[expose] public section

set_option maxRecDepth 16384
set_option pp.maxSteps 2000

noncomputable section

open Idealize.ShloMosaic Idealize.ShloMosaic.TcCoe Idealize.SL.Sem
open Idealize.ShloMosaic.Pipeline (Dat)

namespace Cert.DxIdeal.Value

open Cert.DxIdeal Cert.DxIdeal.Gen Cert.DxQuant

variable (m : (ℓ : Loc nD τ sig) → Buf (Elt Ideal) ℓ)

/-- The run `q` of 128 columns of row `r`. -/
abbrev colRun (M : FVec Ideal S24576x4096 .f32) (r : Fin 24576) (q : Fin 32) : Fin 128 → EReal :=
  fun k => M (ix2 (n0 := 24576) (n1 := 4096) r ⟨128 * q.val + k.val, by omega⟩)

/-- The codes of an array, each run of 128 columns of a row sharing a scale. -/
def codeArr (M : FVec Ideal S24576x4096 .f32) : FVec Ideal S24576x4096 .fp8e5m2 := fun y =>
  cod (colRun M (y 0) ⟨(y 1 : ℕ) / 128, Nat.div_lt_of_lt_mul (y 1).isLt⟩) (M y)

/-- The scales of an array. -/
def scaleArr (M : FVec Ideal S24576x4096 .f32) : FVec Ideal S24576x32 .f32 := fun y => scl (colRun M (y 0) (y 1))

/-- The codes which the last point of a run leaves. -/
theorem out2_last (c : Dev nD) (t : Fin cfg0.N) (h : t.val % 43 = 42) (y : S1024x4096.Idx) :
    (outsAt0 m c t.val t.isLt).1 y = cod (runOf (accAfter m c t.val t.isLt) (y 0) ⟨(y 1 : ℕ) / 128, Nat.div_lt_of_lt_mul (y 1).isLt⟩)
      (accAfter m c t.val t.isLt y) := by
  have e := outsAt0_C m c t (by omega) h
  have hs : accAfter m c t.val t.isLt = _ := congrArg (fun p => p.2.2) e
  refine (congrFun (congrArg (fun p => p.1) e) y).trans ?_
  dsimp only at hs ⊢
  rw [outC2, hs]

/-- The scales which the last point of a run leaves. -/
theorem out3_last (c : Dev nD) (t : Fin cfg0.N) (h : t.val % 43 = 42) (y : S1024x32.Idx) :
    (outsAt0 m c t.val t.isLt).2.1 y = scl (runOf (accAfter m c t.val t.isLt) (y 0) (y 1)) := by
  have e := outsAt0_C m c t (by omega) h
  have hs : accAfter m c t.val t.isLt = _ := congrArg (fun p => p.2.2) e
  refine (congrFun (congrArg (fun p => p.2.1) e) y).trans ?_
  dsimp only at hs ⊢
  rw [outC3, hs]

/-- After the call its first output holds the codes of the gradient. -/
theorem codes (c : Dev nD) : (dats m 0 c).arrAt 2 cfg0.N = codeArr (dxArr (V m c main_arg0) (V m c main_arg1)) := by
  refine (dats m 0 c).arrAt_eq_of_covers 2 _ (by decide +kernel) fun t hf y => ?_
  have h : t.val % 43 = 42 := (flush0_2 t).mp hf
  blk_simp
  rw [after0_2, out2_last m c t h]
  unfold runOf codeArr colRun
  simp only [acc_last m c t h]
  generalize dxArr (V m c main_arg0) (V m c main_arg1) = M
  blk_point [idx0 t]

/-- After the call its second output holds the scales of the gradient. -/
theorem scales (c : Dev nD) : (dats m 0 c).arrAt 3 cfg0.N = scaleArr (dxArr (V m c main_arg0) (V m c main_arg1)) := by
  refine (dats m 0 c).arrAt_eq_of_covers 3 _ (by decide +kernel) fun t hf y => ?_
  have h : t.val % 43 = 42 := (flush0_3 t).mp hf
  blk_simp
  rw [after0_3, out3_last m c t h]
  unfold runOf scaleArr colRun
  simp only [acc_last m c t h]
  generalize dxArr (V m c main_arg0) (V m c main_arg1) = M
  blk_point [idx0 t]

end Cert.DxIdeal.Value

end
-- ==== Proof.DxRef.lean ====
/- The codes and scales which the reference of `dx` computes, as functions of its arguments. -/
module

public import proofs.«01_k».proof.Proof.Gen.DxReferenceIdeal.Frame
public import proofs.«01_k».proof.Proof.DxQuant
public import Idealize.ShloMosaic.Lib.Pipeline.ValueKit

@[expose] public section

set_option maxRecDepth 16384
set_option pp.maxSteps 2000

noncomputable section

open Idealize.ShloMosaic Idealize.ShloMosaic.TcCoe Idealize.SL.Sem
open Idealize.ShloMosaic.Pipeline (Dat)

namespace Cert.DxReferenceIdeal.Value

open Cert.DxReferenceIdeal Cert.DxReferenceIdeal.Gen Cert.DxQuant

variable (m : (ℓ : Loc nD τ sig) → Buf (Elt Ideal) ℓ) (ρ : Dev nD → PrngReg)

/-- The gradient of the input: the gradients at gate and up times the weights, summed over the columns. -/
def dxArr (A : Vec Ideal S24576x22016 .bf16) (B : Vec Ideal S4096x22016 .bf16) : FVec Ideal S24576x4096 .f32 := fun y =>
  ∑ t : Fin 22016, A (ix2 (n0 := 24576) (n1 := 22016) (y 0) t) * B (ix2 (n0 := 4096) (n1 := 22016) (y 1) t)

/-- The run `q` of 128 columns of row `r`. -/
abbrev colRun (M : FVec Ideal S24576x4096 .f32) (r : Fin 24576) (q : Fin 32) : Fin 128 → EReal :=
  fun k => M (ix2 (n0 := 24576) (n1 := 4096) r ⟨128 * q.val + k.val, by omega⟩)

/-- The codes of an array, each run of 128 columns of a row sharing a scale. -/
def codeArr (M : FVec Ideal S24576x4096 .f32) : FVec Ideal S24576x4096 .fp8e5m2 := fun y =>
  cod (colRun M (y 0) ⟨(y 1 : ℕ) / 128, Nat.div_lt_of_lt_mul (y 1).isLt⟩) (M y)

/-- The scales of an array. -/
def scaleArr (M : FVec Ideal S24576x4096 .f32) : FVec Ideal S24576x32 .f32 := fun y => scl (colRun M (y 0) (y 1))

/-- The gradient with its columns in runs of 128. -/
theorem pay1_at (A : Vec Ideal S24576x22016 .bf16) (B : Vec Ideal S4096x22016 .bf16) (x : S24576x32x128.Idx) :
    k0_pay1 (F := Ideal) A B x = colRun (dxArr A B) (x 0) (x 1) (x 2) := by
  pointwise [k0_pay1, dxArr, colRun]
  simp only [Nat.mul_comm 128]

/-- A rank-3 array with a last axis of one element, as a rank-2 array. -/
theorem cast_a (E : FVec Ideal S24576x32x1 .f32) (h) (x : S24576x32.Idx) :
    shapeCast S24576x32 E h x = E (ix3 (n0 := 24576) (n1 := 32) (n2 := 1) (x 0) (x 1) 0) :=
  shapeCast_apply E h x _ (by
    rw [Shape.rowMajor_val_three, Shape.rowMajor_val_two]
    show ((x 0).val * 32 + (x 1).val) * 1 + 0 = (x 0).val * 32 + (x 1).val
    omega)

/-- A rank-2 array with an axis of one element added. -/
theorem cast_b (E : FVec Ideal S24576x32 .f32) (h) (x : S24576x32x1.Idx) :
    shapeCast S24576x32x1 E h x = E (ix2 (n0 := 24576) (n1 := 32) (x 0) (x 1)) :=
  shapeCast_apply E h x _ (by
    rw [Shape.rowMajor_val_three, Shape.rowMajor_val_two]
    show (x 0).val * 32 + (x 1).val = ((x 0).val * 32 + (x 1).val) * 1 + (x 2).val
    have h2 : (x 2).val < 1 := (x 2).isLt
    omega)

/-- An array of runs of 128 columns as an array of rows. -/
theorem cast_c (E : FVec Ideal S24576x32x128 .f32) (h) (x : S24576x4096.Idx) :
    shapeCast S24576x4096 E h x = E (ix3 (n0 := 24576) (n1 := 32) (n2 := 128) (x 0)
      ⟨(x 1 : ℕ) / 128, Nat.div_lt_of_lt_mul (x 1).isLt⟩ ⟨(x 1 : ℕ) % 128, Nat.mod_lt _ (by decide)⟩) :=
  shapeCast_apply E h x _ (by
    rw [Shape.rowMajor_val_three, Shape.rowMajor_val_two]
    show ((x 0).val * 32 + (x 1).val / 128) * 128 + (x 1).val % 128 = (x 0).val * 4096 + (x 1).val
    omega)

/-- One number of each run repeated over the run. -/
theorem bcast (E : FVec Ideal S24576x32x1 .f32) (h) (x : S24576x32x128.Idx) :
    broadcastTo S24576x32x128 E h x = E (ix3 (n0 := 24576) (n1 := 32) (n2 := 1) (x 0) (x 1) 0) :=
  broadcastTo_apply E h x _ (fun a => by match a with | ⟨0, _⟩ => rfl | ⟨1, _⟩ => rfl | ⟨2, _⟩ => rfl)

/-- The largest absolute value of each run. -/
theorem max_at (M : FVec Ideal S24576x32x128 .f32) (x : S24576x32.Idx) :
    multiReduction .maximumf [2] S24576x32 (absf M) 0xFF800000#32 reduces_S24576x32x128_S24576x32 (.inl rfl) rfl x
      = amax fun k : Fin 128 => M (ix3 (n0 := 24576) (n1 := 32) (n2 := 128) (x 0) (x 1) k) := by
  refine (Ideal.multiReduction_maximumf_single (a := 2) (absf M) 0xFF800000#32 reduces_S24576x32x128_S24576x32 (.inl rfl) rfl x).trans ?_
  have hl : ∀ k : Fin 128, (reduces_S24576x32x128_S24576x32).lift x k = ix3 (n0 := 24576) (n1 := 32) (n2 := 128) (x 0) (x 1) k :=
    fun k => funext fun a => Fin.ext (by match a with | ⟨0, _⟩ => rfl | ⟨1, _⟩ => rfl | ⟨2, _⟩ => rfl)
  unfold amax
  refine congrArg (fun f => Finset.fold max (Ideal.ofBits .f32 0xFF800000#32) f Finset.univ) (funext fun k => ?_)
  exact congrArg (fun i => max (M i) (-(M i))) (hl k)

/-- The exponents of an array of largest absolute values, as the body takes them. -/
def expArr (E : FVec Ideal S24576x32x1 .f32) : FVec Ideal S24576x32x1 .f32 :=
  select (cmpf .oeq E (broadcast S24576x32x1 (Scalar.ofBits .f32 0x00000000#32))) (broadcast S24576x32x1 (Scalar.ofBits .f32 0x00000000#32))
    (minimumf (broadcast S24576x32x1 (Scalar.ofBits .f32 0x42FC0000#32)) (maximumf (broadcast S24576x32x1 (Scalar.ofBits .f32 0xC2FC0000#32))
      (addf (floor (divf (log (mulf E (broadcast S24576x32x1 (Scalar.ofBits .f32 0x37924925#32))))
        (log (broadcast S24576x32x1 (Scalar.ofBits .f32 0x40000000#32))))) (broadcast S24576x32x1 (Scalar.ofBits .f32 0x3F800000#32)))))

/-- The body's exponents are those of the largest absolute values of the runs. -/
theorem pay2_eq (A : Vec Ideal S24576x22016 .bf16) (B : Vec Ideal S4096x22016 .bf16) :
    k0_pay2 (F := Ideal) A B = expArr (shapeCast S24576x32x1 (multiReduction .maximumf [2] S24576x32 (absf (k0_pay1 (F := Ideal) A B)) 0xFF800000#32
      reduces_S24576x32x128_S24576x32 (.inl rfl) rfl) shapeCasts_S24576x32_S24576x32x1) := rfl

/-- One exponent. -/
theorem expArr_at (E : FVec Ideal S24576x32x1 .f32) (x : S24576x32x1.Idx) : expArr E x = rexp (E x) (E x * rcp) := by
  have h : expArr E x = if Ideal.cmp .oeq (E x) (Ideal.ofBits .f32 0x00000000#32) = 1#1 then Ideal.ofBits .f32 0x00000000#32 else
      min (Ideal.ofBits .f32 0x42FC0000#32) (max (Ideal.ofBits .f32 0xC2FC0000#32) (Ideal.liftRound Int.floor
        (Ideal.div (Ideal.log (E x * rcp)) (Ideal.log (Ideal.ofBits .f32 0x40000000#32))) + Ideal.ofBits .f32 0x3F800000#32)) := rfl
  have h2 : Ideal.ofBits .f32 0x40000000#32 = ((2 : ℝ) : EReal) := by
    simp [Ideal.ofBits, Ideal.ieee, -EReal.coe_mul]; norm_num
  have h3 : Ideal.ofBits .f32 0x42FC0000#32 = ((126 : ℝ) : EReal) := by
    simp [Ideal.ofBits, Ideal.ieee, -EReal.coe_mul]; norm_num
  have h4 : Ideal.ofBits .f32 0xC2FC0000#32 = ((-126 : ℝ) : EReal) := by
    simp [Ideal.ofBits, Ideal.ieee, -EReal.coe_mul, -EReal.coe_neg]; norm_num
  rw [h, h2, h3, h4, Ideal.ofBits_zero_f32, Ideal.ofBits_one_f32]
  generalize E x = a
  unfold rexp expo
  rfl

/-- The exponents of the runs. -/
theorem pay2_at (A : Vec Ideal S24576x22016 .bf16) (B : Vec Ideal S4096x22016 .bf16) (x : S24576x32x1.Idx) :
    k0_pay2 (F := Ideal) A B x = rexp (amax (colRun (dxArr A B) (x 0) (x 1))) (amax (colRun (dxArr A B) (x 0) (x 1)) * rcp) := by
  rw [pay2_eq, expArr_at, cast_b, max_at]
  have h : (fun k : Fin 128 => k0_pay1 (F := Ideal) A B (ix3 (n0 := 24576) (n1 := 32) (n2 := 128) (x 0) (x 1) k)) = colRun (dxArr A B) (x 0) (x 1) :=
    funext fun k => pay1_at A B _
  exact congrArg (fun f => rexp (amax f) (amax f * rcp)) h

/-- A power of two at an index. -/
theorem exp2_at (E : FVec Ideal S24576x32x1 .f32) (x : S24576x32x1.Idx) : exp2 E x = Ideal.exp2 (E x) := rfl

/-- A difference from a constant at an index. -/
theorem sub_at (a : BitVec 32) (E : FVec Ideal S24576x32x1 .f32) (x : S24576x32x1.Idx) :
    subf (broadcast S24576x32x1 (Scalar.ofBits .f32 a)) E x = Ideal.ofBits .f32 a - E x := rfl

/-- A product kept within two constants, at an index. -/
theorem clip_at (a b : BitVec 32) (G H : FVec Ideal S24576x32x128 .f32) (x : S24576x32x128.Idx) :
    minimumf (broadcast S24576x32x128 (Scalar.ofBits .f32 a)) (maximumf (broadcast S24576x32x128 (Scalar.ofBits .f32 b)) (mulf G H)) x
      = min (Ideal.ofBits .f32 a) (max (Ideal.ofBits .f32 b) (G x * H x)) := rfl

/-- A narrowed array at an index. -/
theorem truncf_at (G : FVec Ideal S24576x4096 .f32) (h) (x : S24576x4096.Idx) : truncf .fp8e5m2 G h x = G x := rfl

/-- The codes the body computes. -/
theorem pay3_at (A : Vec Ideal S24576x22016 .bf16) (B : Vec Ideal S4096x22016 .bf16) (x : S24576x4096.Idx) :
    k0_pay3 (F := Ideal) A B x = codeArr (dxArr A B) x := by
  have h : k0_pay3 (F := Ideal) A B = truncf .fp8e5m2 (shapeCast S24576x4096 (minimumf (broadcast S24576x32x128 (Scalar.ofBits .f32 0x47600000#32))
      (maximumf (broadcast S24576x32x128 (Scalar.ofBits .f32 0xC7600000#32)) (mulf (k0_pay1 A B) (broadcastTo S24576x32x128
        (exp2 (subf (broadcast S24576x32x1 (Scalar.ofBits .f32 0x00000000#32)) (k0_pay2 A B))) broadcasts_S24576x32x1_S24576x32x128))))
      shapeCasts_S24576x32x128_S24576x4096) bitsLt_fp8e5m2_f32 := rfl
  rw [h]
  rw [truncf_at, cast_c, clip_at, bcast, exp2_at, sub_at, pay1_at, pay2_at, Ideal.ofBits_zero_f32]
  have hc : colRun (dxArr A B) (x 0) ⟨(x 1 : ℕ) / 128, Nat.div_lt_of_lt_mul (x 1).isLt⟩ ⟨(x 1 : ℕ) % 128, Nat.mod_lt _ (by decide)⟩ = dxArr A B x :=
    congrArg (dxArr A B) (funext fun a => Fin.ext (by
      match a with
      | ⟨0, _⟩ => rfl
      | ⟨1, _⟩ => exact Nat.div_add_mod (x 1).val 128))
  unfold codeArr cod
  rw [← hc]
  rfl

/-- The scales the body computes. -/
theorem pay4_at (A : Vec Ideal S24576x22016 .bf16) (B : Vec Ideal S4096x22016 .bf16) (x : S24576x32.Idx) :
    k0_pay4 (F := Ideal) A B x = scaleArr (dxArr A B) x := by
  have h : k0_pay4 (F := Ideal) A B = shapeCast S24576x32 (exp2 (k0_pay2 A B)) shapeCasts_S24576x32x1_S24576x32 := rfl
  rw [h, cast_a, exp2_at, pay2_at]
  unfold scaleArr scl
  rfl

/-- Every operand's block is its whole array. -/
theorem idx : ∀ t : Fin cfg0.N, win0_0.index t = ![0, 0] ∧ win0_1.index t = ![0, 0] :=
  (by decide +kernel : ∀ t : Fin grid0.N, _)

/-- The body's first operand is the first argument. -/
theorem opnd0 (c : Dev nD) : @Eq (Vec Ideal S24576x22016 .bf16) (iblk m c 0 t0_0) (V m c main_arg0) := by
  blk_ext! [iblk, idx t0_0]

/-- The body's second operand is the second argument. -/
theorem opnd1 (c : Dev nD) : @Eq (Vec Ideal S4096x22016 .bf16) (iblk m c 1 t0_0) (V m c main_arg1) := by
  blk_ext! [iblk, idx t0_0]

/-- A load of the whole first operand. -/
theorem ld0 (A : Vec Ideal S24576x22016 .bf16) : View.ld (Val := Elt Ideal) A r0_0 = A := View.ld_unit_lit _ A (by decide)

/-- A load of the whole second operand. -/
theorem ld1 (B : Vec Ideal S4096x22016 .bf16) : View.ld (Val := Elt Ideal) B r0_1 = B := View.ld_unit_lit _ B (by decide)

/-- The codes the body leaves. -/
theorem out2_at (A : Vec Ideal S24576x22016 .bf16) (B : Vec Ideal S4096x22016 .bf16) (y : S24576x4096.Idx) :
    out0_2 (F := Ideal) A B y = codeArr (dxArr A B) y := by
  unfold out0_2
  rw [ld0, ld1]
  exact (congrFun (View.canon_cons_unit_lit _ _ _ (by decide)) y).trans (pay3_at A B y)

/-- The scales the body leaves. -/
theorem out3_at (A : Vec Ideal S24576x22016 .bf16) (B : Vec Ideal S4096x22016 .bf16) (y : S24576x32.Idx) :
    out0_3 (F := Ideal) A B y = scaleArr (dxArr A B) y := by
  unfold out0_3
  rw [ld0, ld1]
  exact (congrFun (View.canon_cons_unit_lit _ _ _ (by decide)) y).trans (pay4_at A B y)

/-- After the run the first result array holds the codes of the gradient. -/
theorem codes (c : Dev nD) : (dats m 0 c).arrAt 2 cfg0.N = codeArr (dxArr (V m c main_arg0) (V m c main_arg1)) := by
  refine (dats m 0 c).arrAt_eq_of_after_last 2 t0_0 (by decide +kernel) _ fun j => ?_
  blk_simp
  rw [after0_2]
  refine (out2_at _ _ j).trans ?_
  rw [opnd0, opnd1]

/-- After the run the second result array holds the scales of the gradient. -/
theorem scales (c : Dev nD) : (dats m 0 c).arrAt 3 cfg0.N = scaleArr (dxArr (V m c main_arg0) (V m c main_arg1)) := by
  refine (dats m 0 c).arrAt_eq_of_after_last 3 t0_0 (by decide +kernel) _ fun j => ?_
  blk_simp
  rw [after0_3]
  refine (out3_at _ _ j).trans ?_
  rw [opnd0, opnd1]

/-- The reference's run: its result arrays after it, and the arguments unchanged. -/
theorem run_blocks : θ_run defs (onTc (τ := τ) (main (F := Ideal))) ⟨m, fun _ => 0, ρ⟩ fun r => ∀ c : Dev nD,
      r.2.mem ((c : Thread nD τ).loc main_v0_0) = codeArr (dxArr (m ((c : Thread nD τ).loc main_arg0)) (m ((c : Thread nD τ).loc main_arg1)))
      ∧ r.2.mem ((c : Thread nD τ).loc main_v0_1) = scaleArr (dxArr (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (codes m c), ((h c).1 3).trans (scales m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.DxReferenceIdeal.Value

end
-- ==== Proof.lean ====
/- The certificate, of the seven calls that lead to the weight gradients and of the eighth, `dx`, as two programs: every program
runs and leaves its arguments as launched, the two readings of each kernel are one program, and over the extended reals the
kernel's results are its reference's. -/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Gen.ReferenceIdeal.Value
public import proofs.«01_k».proof.Proof.Gen.Dx.Frame
public import proofs.«01_k».proof.Proof.Gen.DxIdeal.Frame
public import proofs.«01_k».proof.Proof.Gen.DxIdeal.Value
public import proofs.«01_k».proof.Proof.Gen.DxReferenceIdeal.Frame
public import proofs.«01_k».proof.Proof.Run
public import proofs.«01_k».proof.Proof.Compose
public import proofs.«01_k».proof.Proof.RefFinal
public import proofs.«01_k».proof.Proof.DxFinal
public import proofs.«01_k».proof.Proof.DxRef
public import Idealize.ShloMosaic.Adequacy
public import Idealize.ShloMosaic.Init

@[expose] public section

noncomputable section

open Idealize.ShloMosaic Idealize.ShloMosaic.TcCoe Idealize.SL.Sem

namespace Cert.Proof

/-- The kernel's first result as an array. -/
theorem gu_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W9 m ρ c (Proc.devRef .tc Cert.KernelIdeal.main_v17)
      = fun y : Cert.KernelIdeal.S4096x2x11008.Idx => Cert.Mlp.dwGu (Cert.KernelIdeal.Value.argX m c) (Cert.KernelIdeal.Value.argY m c)
          (Cert.KernelIdeal.Value.argGu m 0 c) (Cert.KernelIdeal.Value.argGu m 1 c) (Cert.KernelIdeal.Value.argD m c) (y 0) (y 1) (y 2) :=
  funext fun y => Cert.KernelIdeal.Value.result_gu m ρ c y

/-- The kernel's second result as an array. -/
theorem down_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W9 m ρ c (Proc.devRef .tc Cert.KernelIdeal.main_v16)
      = fun y : Cert.KernelIdeal.S11008x4096.Idx => Cert.Mlp.dwDown (Cert.KernelIdeal.Value.argX m c) (Cert.KernelIdeal.Value.argY m c)
          (Cert.KernelIdeal.Value.argGu m 0 c) (Cert.KernelIdeal.Value.argGu m 1 c) (y 0) (y 1) :=
  funext fun y => Cert.KernelIdeal.Value.result_down m ρ c y

/-- Over the extended reals, from the same arguments, the kernel and the reference end with the same two results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W9 m g c (Proc.devRef .tc Cert.KernelIdeal.main_v17),
    fun c => Cert.KernelIdeal.Gen.W9 m g c (Proc.devRef .tc Cert.KernelIdeal.main_v16),
    Cert.KernelIdeal.Value.run_values m g, ?_⟩
  refine (θ_run _ _ _).mono (fun r h c => ?_) (Cert.ReferenceIdeal.Value.run_blocks m' g')
  obtain ⟨h0, h1, hrest⟩ := h c
  obtain ⟨a0, a1, a2, a3, a4, a5, a6, a7⟩ := hargs c
  have eX : Cert.ReferenceIdeal.Value.argX m' c = Cert.KernelIdeal.Value.argX m c := by
    unfold Cert.ReferenceIdeal.Value.argX Cert.KernelIdeal.Value.argX
    exact congr (congrArg (Cert.Mlp.deqTok (φ := .fp8e4m3)) a0) a1
  have eY : Cert.ReferenceIdeal.Value.argY m' c = Cert.KernelIdeal.Value.argY m c := by
    unfold Cert.ReferenceIdeal.Value.argY Cert.KernelIdeal.Value.argY
    exact congr (congrArg (Cert.Mlp.deqTok (φ := .fp8e5m2)) a2) a3
  have eW : ∀ p, Cert.ReferenceIdeal.Value.argGu m' p c = Cert.KernelIdeal.Value.argGu m p c := fun p => by
    unfold Cert.ReferenceIdeal.Value.argGu Cert.KernelIdeal.Value.argGu
    exact congr (congrArg (Cert.Mlp.deqGu p) a4) a5
  have eD : Cert.ReferenceIdeal.Value.argD m' c = Cert.KernelIdeal.Value.argD m c := by
    unfold Cert.ReferenceIdeal.Value.argD Cert.KernelIdeal.Value.argD
    exact congr (congrArg Cert.Mlp.deqDown a6) a7
  refine ⟨h0.trans ((Cert.ReferenceIdeal.Value.final10 m' c).trans (Eq.trans ?_ (gu_eq m g c).symm)),
    h1.trans ((Cert.ReferenceIdeal.Value.final11 m' c).trans (Eq.trans ?_ (down_eq m g c).symm)), hrest⟩
  · unfold Cert.ReferenceIdeal.Value.refGu
    rw [eX, eY, eW, eW, eD]
  · unfold Cert.ReferenceIdeal.Value.refDown
    rw [eX, eY, eW, eW]

/-- Over the extended reals, from the same arguments, the `dx` call and its reference end with the same codes and scales. -/
theorem dx_algebraic : Cert.algebraic_DxIdeal_DxReferenceIdeal (hDxIdeal := Cert.DxIdeal.Gen.facts)
    (hDxReferenceIdeal := Cert.DxReferenceIdeal.Gen.facts) := by
  intro m g m' g' _ hargs
  refine ⟨fun c => Cert.DxIdeal.Value.codeArr (Cert.DxIdeal.Value.dxArr (Cert.DxIdeal.Gen.V m c Cert.DxIdeal.main_arg0) (Cert.DxIdeal.Gen.V m c Cert.DxIdeal.main_arg1)),
    fun c => Cert.DxIdeal.Value.scaleArr (Cert.DxIdeal.Value.dxArr (Cert.DxIdeal.Gen.V m c Cert.DxIdeal.main_arg0) (Cert.DxIdeal.Gen.V m c Cert.DxIdeal.main_arg1)),
    (θ_run _ _ _).mono (fun r h c => ?_) (Cert.DxIdeal.Value.run_blocks m g),
    (θ_run _ _ _).mono (fun r h c => ?_) (Cert.DxReferenceIdeal.Value.run_blocks m' g')⟩
  · obtain ⟨h0, h1, hrest⟩ := h c
    exact ⟨h0.trans (Cert.DxIdeal.Value.codes m c), h1.trans (Cert.DxIdeal.Value.scales m c), hrest⟩
  · obtain ⟨h0, h1, hrest⟩ := h c
    obtain ⟨a0, a1⟩ := hargs c
    have e : Cert.DxReferenceIdeal.Value.dxArr (m' ((c.tc : Thread Cert.DxReferenceIdeal.nD Cert.DxReferenceIdeal.τ).loc Cert.DxReferenceIdeal.main_arg0))
        (m' ((c.tc : Thread Cert.DxReferenceIdeal.nD Cert.DxReferenceIdeal.τ).loc Cert.DxReferenceIdeal.main_arg1))
        = Cert.DxIdeal.Value.dxArr (Cert.DxIdeal.Gen.V m c Cert.DxIdeal.main_arg0) (Cert.DxIdeal.Gen.V m c Cert.DxIdeal.main_arg1) :=
      congr (congrArg Cert.DxReferenceIdeal.Value.dxArr a0) a1
    exact ⟨h0.trans (congrArg Cert.DxReferenceIdeal.Value.codeArr e), h1.trans (congrArg Cert.DxReferenceIdeal.Value.scaleArr e), hrest⟩

/-- Everything the certificate claims. -/
theorem claim : Cert.Claim :=
  ⟨Cert.Kernel.Gen.facts, Cert.KernelIdeal.Gen.facts, Cert.ReferenceIdeal.Gen.facts,
    Cert.Dx.Gen.facts, Cert.DxIdeal.Gen.facts, Cert.DxReferenceIdeal.Gen.facts,
    fun m ρ _ => Cert.Kernel.Gen.frame m ρ, fun m ρ _ => Cert.KernelIdeal.Gen.frame m ρ,
    fun m ρ _ => Cert.ReferenceIdeal.Gen.frame m ρ, fun m ρ _ => Cert.Dx.Gen.frame m ρ,
    fun m ρ _ => Cert.DxIdeal.Gen.frame m ρ, fun m ρ _ => Cert.DxReferenceIdeal.Gen.frame m ρ,
    trivial, algebraic, trivial, dx_algebraic⟩

end Cert.Proof

end
